-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "pref4_0p0" .f32 0x3BCF817B#32 (((1 / 16) * (Real.pi⁻¹ * Real.pi⁻¹) : ℝ) : EReal)
  ∧ IdealRules.named_const.Statement Cert.KernelIdeal.κ "pref4_1m1" .f32 0x3E6971AA#32 (((9 / 4) * (Real.pi⁻¹ * Real.pi⁻¹) : ℝ) : EReal)
  ∧ IdealRules.named_const.Statement Cert.KernelIdeal.κ "pref4_1p0" .f32 0x3D6971AA#32 (((9 / 16) * (Real.pi⁻¹ * Real.pi⁻¹) : ℝ) : EReal)
  ∧ IdealRules.named_const.Statement Cert.KernelIdeal.κ "pref4_1p1" .f32 0x3C6971AA#32 (((9 / 64) * (Real.pi⁻¹ * Real.pi⁻¹) : ℝ) : EReal)
  ∧ IdealRules.named_const.Statement Cert.KernelIdeal.κ "pref4_2m2" .f32 0x42B660CD#32 ((900 * (Real.pi⁻¹ * Real.pi⁻¹) : ℝ) : EReal)
  ∧ IdealRules.named_const.Statement Cert.KernelIdeal.κ "pref4_2m1" .f32 0x40B660CD#32 (((225 / 4) * (Real.pi⁻¹ * Real.pi⁻¹) : ℝ) : EReal)
  ∧ IdealRules.named_const.Statement Cert.KernelIdeal.κ "pref4_2p0" .f32 0x3E221D28#32 (((25 / 16) * (Real.pi⁻¹ * Real.pi⁻¹) : ℝ) : EReal)
  ∧ IdealRules.named_const.Statement Cert.KernelIdeal.κ "pref4_2p1" .f32 0x3B9019EB#32 (((25 / 576) * (Real.pi⁻¹ * Real.pi⁻¹) : ℝ) : EReal)
  ∧ IdealRules.named_const.Statement Cert.KernelIdeal.κ "pref4_2p2" .f32 0x399019EB#32 (((25 / 9216) * (Real.pi⁻¹ * Real.pi⁻¹) : ℝ) : EReal)
  ∧ IdealRules.named_const.Statement Cert.KernelIdeal.κ "mu_step" .f32 0x3FAAAAAB#32 ((4 / 3 : ℝ) : EReal)

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v541) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S8x512x3 : Shape := ⟨3, ![8, 512, 3]⟩
abbrev S8x512 : Shape := ⟨2, ![8, 512]⟩
abbrev S16x66 : Shape := ⟨2, ![16, 66]⟩
abbrev S16 : Shape := ⟨1, ![16]⟩
abbrev S128x163 : Shape := ⟨2, ![128, 163]⟩
abbrev S128 : Shape := ⟨1, ![128]⟩
abbrev S_ : Shape := ⟨0, ![]⟩
abbrev S8x1 : Shape := ⟨2, ![8, 1]⟩
abbrev S8 : Shape := ⟨1, ![8]⟩

class Facts : Prop where
  bcast_S_S8x512x3 : S_.BroadcastsInDim S8x512x3 (![] : Fin 0 → Fin S8x512x3.rank)
  bcast_S_S8x512 : S_.BroadcastsInDim S8x512 (![] : Fin 0 → Fin S8x512.rank)
  slices_S8x512_S8x1_0_0 : S8x512.Slices ![0, 0] S8x1
  bcast_S8x1_S8x512_0_1 : S8x1.BroadcastsInDim S8x512 (![0, 1] : Fin 2 → Fin S8x512.rank)
  shapeCasts_S8x1_S8 : S8x1.ShapeCasts S8
  bcast_S8_S8x512_0 : S8.BroadcastsInDim S8x512 (![0] : Fin 1 → Fin S8x512.rank)

variable [Facts]

def fn {F : FTy → Type} [FloatOps F] (main_arg0 : FVec F S8x512x3 .f32) (main_arg1 : FVec F S8x512 .f32) (main_arg2 : IVec S8x512 32) (main_arg3 : IVec S8x512 32) (main_arg4 : FVec F S16x66 .f32) (main_arg5 : FVec F S16 .f32) (main_arg6 : FVec F S128x163 .f32) (main_arg7 : FVec F S128 .f32) (main_arg8 : FVec F S128 .f32) : IVec S8x512x3 1 × IVec S8x512 1 × IVec S8x512 1 × IVec S8x512 1 :=
  let main_v0 : FVec F S8x512x3 .f32 := Host.absf main_arg0
  let main_cst : FVec F S_ .f32 := constant S_ .f32 0x7F800000#32
  let main_v1 : FVec F S8x512x3 .f32 := broadcastInDim S8x512x3 ![] bcast_S_S8x512x3 main_cst
  let main_v2 : IVec S8x512x3 1 := cmpf .olt main_v0 main_v1
  let main_cst_0 : FVec F S_ .f32 := constant S_ .f32 0x3F800000#32
  let main_v3 : FVec F S8x512 .f32 := broadcastInDim S8x512 ![] bcast_S_S8x512 main_cst_0
  let main_v4 : IVec S8x512 1 := cmpf .oeq main_arg1 main_v3
  let main_v5 : IVec S8x1 32 := (extractStridedSlice S8x1 ![0, 0] · slices_S8x512_S8x1_0_0) main_arg2
  let main_v6 : IVec S8x512 32 := broadcastInDim S8x512 ![0, 1] bcast_S8x1_S8x512_0_1 main_v5
  let main_v7 : IVec S8x512 32 := subi main_arg2 main_v6
  let main_v8 : IVec S8x512 32 := iotaInDim S8x512 32 1
  let main_v9 : IVec S8x512 1 := cmpi .eq main_v7 main_v8
  let main_v10 : IVec S8x1 32 := (extractStridedSlice S8x1 ![0, 0] · slices_S8x512_S8x1_0_0) main_arg3
  let main_v11 : IVec S8 32 := shapeCast S8 main_v10 shapeCasts_S8x1_S8
  let main_v12 : IVec S8x512 32 := broadcastInDim S8x512 ![0] bcast_S8_S8x512_0 main_v11
  let main_v13 : IVec S8x512 1 := cmpi .eq main_arg3 main_v12
  (main_v2, main_v4, main_v9, main_v13)
-- ==== Kernel.lean ====
abbrev S8x512x3 : Shape := ⟨3, ![8, 512, 3]⟩
abbrev S8x512 : Shape := ⟨2, ![8, 512]⟩
abbrev S16x66 : Shape := ⟨2, ![16, 66]⟩
abbrev S16 : Shape := ⟨1, ![16]⟩
abbrev S128x163 : Shape := ⟨2, ![128, 163]⟩
abbrev S128 : Shape := ⟨1, ![128]⟩
abbrev S8x3x512 : Shape := ⟨3, ![8, 3, 512]⟩
abbrev S8x512x30 : Shape := ⟨3, ![8, 512, 30]⟩
abbrev S1x512x3 : Shape := ⟨3, ![1, 512, 3]⟩
abbrev S1x3x512 : Shape := ⟨3, ![1, 3, 512]⟩
abbrev S1x512x30 : Shape := ⟨3, ![1, 512, 30]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S512x30 : Shape := ⟨2, ![512, 30]⟩
abbrev S_ : Shape := ⟨0, ![]⟩
abbrev S8x1x3 : Shape := ⟨3, ![8, 1, 3]⟩
abbrev S8x511x3 : Shape := ⟨3, ![8, 511, 3]⟩
abbrev S8x512x24 : Shape := ⟨3, ![8, 512, 24]⟩
abbrev S8x512x5 : Shape := ⟨3, ![8, 512, 5]⟩
abbrev S8x512x32 : Shape := ⟨3, ![8, 512, 32]⟩
abbrev S66x16 : Shape := ⟨2, ![66, 16]⟩
abbrev S163x128 : Shape := ⟨2, ![163, 128]⟩
abbrev S1x16 : Shape := ⟨2, ![1, 16]⟩
abbrev S1x128 : Shape := ⟨2, ![1, 128]⟩
abbrev S8x15360x128 : Shape := ⟨3, ![8, 15360, 128]⟩
abbrev S1x64x30 : Shape := ⟨3, ![1, 64, 30]⟩
abbrev S1x512x32 : Shape := ⟨3, ![1, 512, 32]⟩
abbrev S1x64x24 : Shape := ⟨3, ![1, 64, 24]⟩
abbrev S1x1920x128 : Shape := ⟨3, ![1, 1920, 128]⟩
abbrev S64x30 : Shape := ⟨2, ![64, 30]⟩
abbrev S64x24 : Shape := ⟨2, ![64, 24]⟩
abbrev S1920x1 : Shape := ⟨2, ![1920, 1]⟩
abbrev S1920x64 : Shape := ⟨2, ![1920, 64]⟩
abbrev S1920x30 : Shape := ⟨2, ![1920, 30]⟩
abbrev S1920 : Shape := ⟨1, ![1920]⟩
abbrev S1920x512 : Shape := ⟨2, ![1920, 512]⟩
abbrev S512x32 : Shape := ⟨2, ![512, 32]⟩
abbrev S1920x32 : Shape := ⟨2, ![1920, 32]⟩
abbrev S1920x24 : Shape := ⟨2, ![1920, 24]⟩
abbrev S24x8 : Shape := ⟨2, ![24, 8]⟩
abbrev S1920x8 : Shape := ⟨2, ![1920, 8]⟩
abbrev S1920x9 : Shape := ⟨2, ![1920, 9]⟩
abbrev S9x144 : Shape := ⟨2, ![9, 144]⟩
abbrev S1920x144 : Shape := ⟨2, ![1920, 144]⟩
abbrev S1x144 : Shape := ⟨2, ![1, 144]⟩
abbrev S1920x66 : Shape := ⟨2, ![1920, 66]⟩
abbrev S1920x16 : Shape := ⟨2, ![1920, 16]⟩
abbrev S1920x3 : Shape := ⟨2, ![1920, 3]⟩
abbrev S1920x163 : Shape := ⟨2, ![1920, 163]⟩
abbrev S1920x128 : Shape := ⟨2, ![1920, 128]⟩
abbrev S8x512x30x128 : Shape := ⟨4, ![8, 512, 30, 128]⟩

abbrev nBuf : Space → Nat
  | .hbm => 34
  | .vmem => 27
  | .smem => 0
  | _ => 0

abbrev bufTy : (tb : Table) → Fin (tcTables nBuf tb) → BufTy
  | .hbm, ⟨0, _⟩ => ⟨S8x512x3, .f32⟩
  | .hbm, ⟨1, _⟩ => ⟨S8x512, .f32⟩
  | .hbm, ⟨2, _⟩ => ⟨S8x512, .i32⟩
  | .hbm, ⟨3, _⟩ => ⟨S8x512, .i32⟩
  | .hbm, ⟨4, _⟩ => ⟨S16x66, .f32⟩
  | .hbm, ⟨5, _⟩ => ⟨S16, .f32⟩
  | .hbm, ⟨6, _⟩ => ⟨S128x163, .f32⟩
  | .hbm, ⟨7, _⟩ => ⟨S128, .f32⟩
  | .hbm, ⟨8, _⟩ => ⟨S128, .f32⟩
  | .hbm, ⟨9, _⟩ => ⟨S8x3x512, .f32⟩
  | .hbm, ⟨10, _⟩ => ⟨S8x512x30, .f32⟩
  | .hbm, ⟨11, _⟩ => ⟨S8x512x30, .i32⟩
  | .hbm, ⟨12, _⟩ => ⟨S8x512x3, .f32⟩
  | .hbm, ⟨13, _⟩ => ⟨S_, .f32⟩
  | .hbm, ⟨14, _⟩ => ⟨S8x1x3, .f32⟩
  | .hbm, ⟨15, _⟩ => ⟨S8x511x3, .f32⟩
  | .hbm, ⟨16, _⟩ => ⟨S8x512x3, .f32⟩
  | .hbm, ⟨17, _⟩ => ⟨S8x511x3, .f32⟩
  | .hbm, ⟨18, _⟩ => ⟨S8x512x3, .f32⟩
  | .hbm, ⟨19, _⟩ => ⟨S8x512x24, .f32⟩
  | .hbm, ⟨20, _⟩ => ⟨S_, .f32⟩
  | .hbm, ⟨21, _⟩ => ⟨S8x512x5, .f32⟩
  | .hbm, ⟨22, _⟩ => ⟨S8x512x32, .f32⟩
  | .hbm, ⟨23, _⟩ => ⟨S8x512x32, .bf16⟩
  | .hbm, ⟨24, _⟩ => ⟨S8x512x32, .f32⟩
  | .hbm, ⟨25, _⟩ => ⟨S8x512x32, .f32⟩
  | .hbm, ⟨26, _⟩ => ⟨S8x512x32, .bf16⟩
  | .hbm, ⟨27, _⟩ => ⟨S66x16, .f32⟩
  | .hbm, ⟨28, _⟩ => ⟨S163x128, .f32⟩
  | .hbm, ⟨29, _⟩ => ⟨S1x16, .f32⟩
  | .hbm, ⟨30, _⟩ => ⟨S1x128, .f32⟩
  | .hbm, ⟨31, _⟩ => ⟨S1x128, .f32⟩
  | .hbm, ⟨32, _⟩ => ⟨S8x15360x128, .f32⟩
  | .hbm, ⟨33, _⟩ => ⟨S8x512x30x128, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x30, .f32⟩
  | .local _ .vmem, ⟨5, _⟩ => ⟨S1x512x30, .f32⟩
  | .local _ .vmem, ⟨6, _⟩ => ⟨S1x512x30, .i32⟩
  | .local _ .vmem, ⟨7, _⟩ => ⟨S1x512x30, .i32⟩
  | .local _ .vmem, ⟨8, _⟩ => ⟨S1x512x3, .f32⟩
  | .local _ .vmem, ⟨9, _⟩ => ⟨S1x512x3, .f32⟩
  | .local _ .vmem, ⟨10, _⟩ => ⟨S1x64x30, .i32⟩
  | .local _ .vmem, ⟨11, _⟩ => ⟨S1x64x30, .i32⟩
  | .local _ .vmem, ⟨12, _⟩ => ⟨S1x64x30, .f32⟩
  | .local _ .vmem, ⟨13, _⟩ => ⟨S1x64x30, .f32⟩
  | .local _ .vmem, ⟨14, _⟩ => ⟨S1x512x32, .bf16⟩
  | .local _ .vmem, ⟨15, _⟩ => ⟨S1x512x32, .bf16⟩
  | .local _ .vmem, ⟨16, _⟩ => ⟨S1x512x32, .bf16⟩
  | .local _ .vmem, ⟨17, _⟩ => ⟨S1x512x32, .bf16⟩
  | .local _ .vmem, ⟨18, _⟩ => ⟨S1x64x24, .f32⟩
  | .local _ .vmem, ⟨19, _⟩ => ⟨S1x64x24, .f32⟩
  | .local _ .vmem, ⟨20, _⟩ => ⟨S66x16, .f32⟩
  | .local _ .vmem, ⟨21, _⟩ => ⟨S1x16, .f32⟩
  | .local _ .vmem, ⟨22, _⟩ => ⟨S163x128, .f32⟩
  | .local _ .vmem, ⟨23, _⟩ => ⟨S1x128, .f32⟩
  | .local _ .vmem, ⟨24, _⟩ => ⟨S1x128, .f32⟩
  | .local _ .vmem, ⟨25, _⟩ => ⟨S1x1920x128, .f32⟩
  | .local _ .vmem, ⟨26, _⟩ => ⟨S1x1920x128, .f32⟩
  | _, _ => ⟨S8x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x30 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x30 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x30 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S66x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S163x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1920x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "mu_step" => some ((4 / 3 : ℝ) : EReal)
  | "pref4_0p0" => some (((1 / 16) * (Real.pi⁻¹ * Real.pi⁻¹) : ℝ) : EReal)
  | "pref4_1m1" => some (((9 / 4) * (Real.pi⁻¹ * Real.pi⁻¹) : ℝ) : EReal)
  | "pref4_1p0" => some (((9 / 16) * (Real.pi⁻¹ * Real.pi⁻¹) : ℝ) : EReal)
  | "pref4_1p1" => some (((9 / 64) * (Real.pi⁻¹ * Real.pi⁻¹) : ℝ) : EReal)
  | "pref4_2m1" => some (((225 / 4) * (Real.pi⁻¹ * Real.pi⁻¹) : ℝ) : EReal)
  | "pref4_2m2" => some ((900 * (Real.pi⁻¹ * Real.pi⁻¹) : ℝ) : EReal)
  | "pref4_2p0" => some (((25 / 16) * (Real.pi⁻¹ * Real.pi⁻¹) : ℝ) : EReal)
  | "pref4_2p1" => some (((25 / 576) * (Real.pi⁻¹ * Real.pi⁻¹) : ℝ) : EReal)
  | "pref4_2p2" => some (((25 / 9216) * (Real.pi⁻¹ * Real.pi⁻¹) : ℝ) : EReal)
  | _ => none
-- ==== ReferenceIdeal.lean ====
abbrev S8x512x3 : Shape := ⟨3, ![8, 512, 3]⟩
abbrev S8x512 : Shape := ⟨2, ![8, 512]⟩
abbrev S16x66 : Shape := ⟨2, ![16, 66]⟩
abbrev S16 : Shape := ⟨1, ![16]⟩
abbrev S128x163 : Shape := ⟨2, ![128, 163]⟩
abbrev S128 : Shape := ⟨1, ![128]⟩
abbrev S8x1x512 : Shape := ⟨3, ![8, 1, 512]⟩
abbrev S8x512x1 : Shape := ⟨3, ![8, 512, 1]⟩
abbrev S8x512x512 : Shape := ⟨3, ![8, 512, 512]⟩
abbrev S8x1x512x3 : Shape := ⟨4, ![8, 1, 512, 3]⟩
abbrev S8x512x1x3 : Shape := ⟨4, ![8, 512, 1, 3]⟩
abbrev S8x512x512x3 : Shape := ⟨4, ![8, 512, 512, 3]⟩
abbrev S_ : Shape := ⟨0, ![]⟩
abbrev S8x512x30 : Shape := ⟨3, ![8, 512, 30]⟩
abbrev S8x511x3 : Shape := ⟨3, ![8, 511, 3]⟩
abbrev S1x8x512x3 : Shape := ⟨4, ![1, 8, 512, 3]⟩
abbrev S8x8x512x3 : Shape := ⟨4, ![8, 8, 512, 3]⟩
abbrev S8x8x512x1x3 : Shape := ⟨5, ![8, 8, 512, 1, 3]⟩
abbrev S8x8x1x512x3 : Shape := ⟨5, ![8, 8, 1, 512, 3]⟩
abbrev S8x8x512x512x3 : Shape := ⟨5, ![8, 8, 512, 512, 3]⟩
abbrev S8x8x512x512 : Shape := ⟨4, ![8, 8, 512, 512]⟩
abbrev S8x8x512x30 : Shape := ⟨4, ![8, 8, 512, 30]⟩
abbrev S8x8x512x30x1 : Shape := ⟨5, ![8, 8, 512, 30, 1]⟩
abbrev S1x8x512x30 : Shape := ⟨4, ![1, 8, 512, 30]⟩
abbrev S9x8x512x30 : Shape := ⟨4, ![9, 8, 512, 30]⟩
abbrev S8x512x30x9 : Shape := ⟨4, ![8, 512, 30, 9]⟩
abbrev S15 : Shape := ⟨1, ![15]⟩
abbrev S1 : Shape := ⟨1, ![1]⟩
abbrev S8x512x30x9x1 : Shape := ⟨5, ![8, 512, 30, 9, 1]⟩
abbrev S1x1x1x1x16 : Shape := ⟨5, ![1, 1, 1, 1, 16]⟩
abbrev S8x512x30x9x16 : Shape := ⟨5, ![8, 512, 30, 9, 16]⟩
abbrev S8x512x30x144 : Shape := ⟨4, ![8, 512, 30, 144]⟩
abbrev S8x15360 : Shape := ⟨2, ![8, 15360]⟩
abbrev S8x15360x1 : Shape := ⟨3, ![8, 15360, 1]⟩
abbrev S8x15360x3 : Shape := ⟨3, ![8, 15360, 3]⟩
abbrev S8x512x30x3 : Shape := ⟨4, ![8, 512, 30, 3]⟩
abbrev S8x512x30x1 : Shape := ⟨4, ![8, 512, 30, 1]⟩
abbrev S1x1x1x66 : Shape := ⟨4, ![1, 1, 1, 66]⟩
abbrev S8x512x30x66 : Shape := ⟨4, ![8, 512, 30, 66]⟩
abbrev S66x16 : Shape := ⟨2, ![66, 16]⟩
abbrev S8x512x30x16 : Shape := ⟨4, ![8, 512, 30, 16]⟩
abbrev S1x1x1x16 : Shape := ⟨4, ![1, 1, 1, 16]⟩
abbrev S8x512x30x163 : Shape := ⟨4, ![8, 512, 30, 163]⟩
abbrev S163x128 : Shape := ⟨2, ![163, 128]⟩
abbrev S8x512x30x128 : Shape := ⟨4, ![8, 512, 30, 128]⟩
abbrev S1x1x1x128 : Shape := ⟨4, ![1, 1, 1, 128]⟩

abbrev nBuf : Space → Nat
  | .hbm => 770
  | .vmem => 0
  | .smem => 0
  | _ => 0

abbrev hbmTy0_0 (i : Nat) : BufTy := match i % 128 with
  | 0 => ⟨S8x512x3, .f32⟩
  | 1 => ⟨S8x512, .f32⟩
  | 2 => ⟨S8x512, .i32⟩
  | 3 => ⟨S8x512, .i32⟩
  | 4 => ⟨S16x66, .f32⟩
  | 5 => ⟨S16, .f32⟩
  | 6 => ⟨S128x163, .f32⟩
  | 7 => ⟨S128, .f32⟩
  | 8 => ⟨S128, .f32⟩
  | 9 => ⟨S8x1x512, .f32⟩
  | 10 => ⟨S8x512x1, .f32⟩
  | 11 => ⟨S8x512x512, .f32⟩
  | 12 => ⟨S8x512x512, .f32⟩
  | 13 => ⟨S8x512x512, .f32⟩
  | 14 => ⟨S8x1x512x3, .f32⟩
  | 15 => ⟨S8x512x1x3, .f32⟩
  | 16 => ⟨S8x512x512x3, .f32⟩
  | 17 => ⟨S8x512x512x3, .f32⟩
  | 18 => ⟨S8x512x512x3, .f32⟩
  | 19 => ⟨S8x512x512x3, .f32⟩
  | 20 => ⟨S_, .f32⟩
  | 21 => ⟨S8x512x512, .f32⟩
  | 22 => ⟨S_, .f32⟩
  | 23 => ⟨S8x512x512, .f32⟩
  | 24 => ⟨S8x512x512, .f32⟩
  | 25 => ⟨S8x512x512, .f32⟩
  | 26 => ⟨S8x512x512, .f32⟩
  | 27 => ⟨S_, .f32⟩
  | 28 => ⟨S8x512, .f32⟩
  | 29 => ⟨S8x512x1, .f32⟩
  | 30 => ⟨S_, .f32⟩
  | 31 => ⟨S8x512x512, .f32⟩
  | 32 => ⟨S8x512x512, .f32⟩
  | 33 => ⟨S8x512x512, .f32⟩
  | 34 => ⟨S8x512x512, .f32⟩
  | 35 => ⟨S8x512x512, .f32⟩
  | 36 => ⟨S8x512x512, .f32⟩
  | 37 => ⟨S8x512x30, .f32⟩
  | 38 => ⟨S8x512x30, .i32⟩
  | 39 => ⟨S8x512x30, .f32⟩
  | 40 => ⟨S8x511x3, .f32⟩
  | 41 => ⟨S_, .i32⟩
  | 42 => ⟨S_, .f32⟩
  | 43 => ⟨S8x512x3, .f32⟩
  | 44 => ⟨S8x511x3, .f32⟩
  | 45 => ⟨S_, .i32⟩
  | 46 => ⟨S_, .f32⟩
  | 47 => ⟨S8x512x3, .f32⟩
  | 48 => ⟨S1x8x512x3, .f32⟩
  | 49 => ⟨S1x8x512x3, .f32⟩
  | 50 => ⟨S1x8x512x3, .f32⟩
  | 51 => ⟨S1x8x512x3, .f32⟩
  | 52 => ⟨S1x8x512x3, .f32⟩
  | 53 => ⟨S1x8x512x3, .f32⟩
  | 54 => ⟨S1x8x512x3, .f32⟩
  | 55 => ⟨S1x8x512x3, .f32⟩
  | 56 => ⟨S8x8x512x3, .f32⟩
  | 57 => ⟨S1x8x512x3, .f32⟩
  | 58 => ⟨S1x8x512x3, .f32⟩
  | 59 => ⟨S1x8x512x3, .f32⟩
  | 60 => ⟨S1x8x512x3, .f32⟩
  | 61 => ⟨S1x8x512x3, .f32⟩
  | 62 => ⟨S1x8x512x3, .f32⟩
  | 63 => ⟨S1x8x512x3, .f32⟩
  | 64 => ⟨S1x8x512x3, .f32⟩
  | 65 => ⟨S8x8x512x3, .f32⟩
  | 66 => ⟨S8x8x512x1x3, .f32⟩
  | 67 => ⟨S8x8x1x512x3, .f32⟩
  | 68 => ⟨S8x8x512x512x3, .f32⟩
  | 69 => ⟨S8x8x512x512x3, .f32⟩
  | 70 => ⟨S8x8x512x512x3, .f32⟩
  | 71 => ⟨S8x8x512x512x3, .f32⟩
  | 72 => ⟨S_, .f32⟩
  | 73 => ⟨S8x8x512x512, .f32⟩
  | 74 => ⟨S_, .f32⟩
  | 75 => ⟨S8x8x512x512, .f32⟩
  | 76 => ⟨S8x8x512x512, .f32⟩
  | 77 => ⟨S8x8x512x512, .f32⟩
  | 78 => ⟨S8x8x512x30, .i32⟩
  | 79 => ⟨S_, .i32⟩
  | 80 => ⟨S8x8x512x30, .i32⟩
  | 81 => ⟨S8x8x512x30, .i1⟩
  | 82 => ⟨S_, .i32⟩
  | 83 => ⟨S8x8x512x30, .i32⟩
  | 84 => ⟨S8x8x512x30, .i32⟩
  | 85 => ⟨S8x8x512x30, .i32⟩
  | 86 => ⟨S8x8x512x30x1, .i32⟩
  | 87 => ⟨S8x8x512x30, .f32⟩
  | 88 => ⟨S1x8x512x30, .f32⟩
  | 89 => ⟨S9x8x512x30, .f32⟩
  | 90 => ⟨S8x512x30x9, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S15, .f32⟩
  | 99 => ⟨S_, .f32⟩
  | 100 => ⟨S15, .f32⟩
  | 101 => ⟨S15, .f32⟩
  | 102 => ⟨S1, .f32⟩
  | 103 => ⟨S_, .f32⟩
  | 104 => ⟨S15, .f32⟩
  | 105 => ⟨S15, .f32⟩
  | 106 => ⟨S15, .f32⟩
  | 107 => ⟨S15, .f32⟩
  | 108 => ⟨S1, .f32⟩
  | 109 => ⟨S15, .f32⟩
  | 110 => ⟨S15, .f32⟩
  | 111 => ⟨S15, .f32⟩
  | 112 => ⟨S1, .f32⟩
  | 113 => ⟨S16, .f32⟩
  | 114 => ⟨S8x512x30x9x1, .f32⟩
  | 115 => ⟨S1x1x1x1x16, .f32⟩
  | 116 => ⟨S8x512x30x9x16, .f32⟩
  | 117 => ⟨S8x512x30x9x16, .f32⟩
  | 118 => ⟨S8x512x30x9x16, .f32⟩
  | 119 => ⟨S_, .f32⟩
  | 120 => ⟨S8x512x30x9x16, .f32⟩
  | 121 => ⟨S8x512x30x9x16, .f32⟩
  | 122 => ⟨S8x512x30x9x16, .f32⟩
  | 123 => ⟨S8x512x30x9x16, .f32⟩
  | 124 => ⟨S8x512x30x9x16, .f32⟩
  | 125 => ⟨S8x512x30x144, .f32⟩
  | 126 => ⟨S8x512x3, .f32⟩
  | 127 => ⟨S_, .f32⟩
  | _ => ⟨S8x512x3, .f32⟩

abbrev hbmTy0_1 (i : Nat) : BufTy := match i % 128 with
  | 0 => ⟨S8x512, .f32⟩
  | 1 => ⟨S8x512, .f32⟩
  | 2 => ⟨S8x512x1, .f32⟩
  | 3 => ⟨S8x512, .f32⟩
  | 4 => ⟨S8x512, .f32⟩
  | 5 => ⟨S8x512, .f32⟩
  | 6 => ⟨S8x512x1, .f32⟩
  | 7 => ⟨S8x512, .f32⟩
  | 8 => ⟨S8x512x1, .f32⟩
  | 9 => ⟨S8x512, .f32⟩
  | 10 => ⟨S8x512, .f32⟩
  | 11 => ⟨S8x512, .f32⟩
  | 12 => ⟨S_, .f32⟩
  | 13 => ⟨S_, .f32⟩
  | 14 => ⟨S_, .f32⟩
  | 15 => ⟨S8x512, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S8x512, .f32⟩
  | 27 => ⟨S_, .f32⟩
  | 28 => ⟨S8x512, .f32⟩
  | 29 => ⟨S8x512, .f32⟩
  | 30 => ⟨S_, .f32⟩
  | 31 => ⟨S8x512, .f32⟩
  | 32 => ⟨S8x512, .f32⟩
  | 33 => ⟨S8x512, .f32⟩
  | 34 => ⟨S_, .f32⟩
  | 35 => ⟨S8x512, .f32⟩
  | 36 => ⟨S8x512, .f32⟩
  | 37 => ⟨S8x512, .f32⟩
  | 38 => ⟨S_, .f32⟩
  | 39 => ⟨S8x512, .f32⟩
  | 40 => ⟨S8x512, .f32⟩
  | 41 => ⟨S8x512, .f32⟩
  | 42 => ⟨S8x512, .f32⟩
  | 43 => ⟨S8x512, .f32⟩
  | 44 => ⟨S8x512, .f32⟩
  | 45 => ⟨S_, .f32⟩
  | 46 => ⟨S8x512, .f32⟩
  | 47 => ⟨S8x512, .f32⟩
  | 48 => ⟨S8x512, .f32⟩
  | 49 => ⟨S8x512, .f32⟩
  | 50 => ⟨S_, .f32⟩
  | 51 => ⟨S8x512, .f32⟩
  | 52 => ⟨S8x512, .f32⟩
  | 53 => ⟨S8x512, .f32⟩
  | 54 => ⟨S8x512, .f32⟩
  | 55 => ⟨S8x512, .f32⟩
  | 56 => ⟨S8x512, .f32⟩
  | 57 => ⟨S_, .f32⟩
  | 58 => ⟨S8x512, .f32⟩
  | 59 => ⟨S8x512, .f32⟩
  | 60 => ⟨S8x512, .f32⟩
  | 61 => ⟨S8x512, .f32⟩
  | 62 => ⟨S8x512, .f32⟩
  | 63 => ⟨S8x512, .f32⟩
  | 64 => ⟨S8x512, .f32⟩
  | 65 => ⟨S8x512, .f32⟩
  | 66 => ⟨S8x512, .f32⟩
  | 67 => ⟨S8x512, .f32⟩
  | 68 => ⟨S_, .f32⟩
  | 69 => ⟨S8x512, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8x512, .f32⟩
  | 81 => ⟨S_, .f32⟩
  | 82 => ⟨S8x512, .f32⟩
  | 83 => ⟨S8x512, .f32⟩
  | 84 => ⟨S_, .f32⟩
  | 85 => ⟨S8x512, .f32⟩
  | 86 => ⟨S8x512, .f32⟩
  | 87 => ⟨S8x512, .f32⟩
  | 88 => ⟨S_, .f32⟩
  | 89 => ⟨S8x512, .f32⟩
  | 90 => ⟨S8x512, .f32⟩
  | 91 => ⟨S8x512, .f32⟩
  | 92 => ⟨S8x512, .f32⟩
  | 93 => ⟨S_, .f32⟩
  | 94 => ⟨S8x512, .f32⟩
  | 95 => ⟨S8x512, .f32⟩
  | 96 => ⟨S8x512, .f32⟩
  | 97 => ⟨S8x512, .f32⟩
  | 98 => ⟨S8x512, .f32⟩
  | 99 => ⟨S8x512, .f32⟩
  | 100 => ⟨S_, .f32⟩
  | 101 => ⟨S8x512, .f32⟩
  | 102 => ⟨S8x512, .f32⟩
  | 103 => ⟨S8x512, .f32⟩
  | 104 => ⟨S8x512, .f32⟩
  | 105 => ⟨S_, .f32⟩
  | 106 => ⟨S8x512, .f32⟩
  | 107 => ⟨S8x512, .f32⟩
  | 108 => ⟨S8x512, .f32⟩
  | 109 => ⟨S8x512, .f32⟩
  | 110 => ⟨S8x512, .f32⟩
  | 111 => ⟨S8x512, .f32⟩
  | 112 => ⟨S_, .f32⟩
  | 113 => ⟨S8x512, .f32⟩
  | 114 => ⟨S8x512, .f32⟩
  | 115 => ⟨S8x512, .f32⟩
  | 116 => ⟨S8x512, .f32⟩
  | 117 => ⟨S8x512, .f32⟩
  | 118 => ⟨S8x512, .f32⟩
  | 119 => ⟨S8x512, .f32⟩
  | 120 => ⟨S8x512, .f32⟩
  | 121 => ⟨S8x512, .f32⟩
  | 122 => ⟨S8x512, .f32⟩
  | 123 => ⟨S_, .f32⟩
  | 124 => ⟨S_, .f32⟩
  | 125 => ⟨S_, .f32⟩
  | 126 => ⟨S_, .f32⟩
  | 127 => ⟨S_, .f32⟩
  | _ => ⟨S8x512x3, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S8x512, .f32⟩
  | 6 => ⟨S_, .f32⟩
  | 7 => ⟨S8x512, .f32⟩
  | 8 => ⟨S8x512, .f32⟩
  | 9 => ⟨S_, .f32⟩
  | 10 => ⟨S8x512, .f32⟩
  | 11 => ⟨S8x512, .f32⟩
  | 12 => ⟨S8x512, .f32⟩
  | 13 => ⟨S8x512, .f32⟩
  | 14 => ⟨S8x512, .f32⟩
  | 15 => ⟨S_, .f32⟩
  | 16 => ⟨S8x512, .f32⟩
  | 17 => ⟨S8x512, .f32⟩
  | 18 => ⟨S8x512, .f32⟩
  | 19 => ⟨S8x512, .f32⟩
  | 20 => ⟨S8x512, .f32⟩
  | 21 => ⟨S8x512, .f32⟩
  | 22 => ⟨S_, .f32⟩
  | 23 => ⟨S8x512, .f32⟩
  | 24 => ⟨S8x512, .f32⟩
  | 25 => ⟨S8x512, .f32⟩
  | 26 => ⟨S8x512, .f32⟩
  | 27 => ⟨S_, .f32⟩
  | 28 => ⟨S8x512, .f32⟩
  | 29 => ⟨S8x512, .f32⟩
  | 30 => ⟨S8x512, .f32⟩
  | 31 => ⟨S8x512, .f32⟩
  | 32 => ⟨S8x512, .f32⟩
  | 33 => ⟨S8x512, .f32⟩
  | 34 => ⟨S_, .f32⟩
  | 35 => ⟨S8x512, .f32⟩
  | 36 => ⟨S8x512, .f32⟩
  | 37 => ⟨S8x512, .f32⟩
  | 38 => ⟨S8x512, .f32⟩
  | 39 => ⟨S8x512, .f32⟩
  | 40 => ⟨S8x512, .f32⟩
  | 41 => ⟨S8x512, .f32⟩
  | 42 => ⟨S8x512, .f32⟩
  | 43 => ⟨S8x512, .f32⟩
  | 44 => ⟨S8x512, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S8x512, .f32⟩
  | 56 => ⟨S_, .f32⟩
  | 57 => ⟨S8x512, .f32⟩
  | 58 => ⟨S8x512, .f32⟩
  | 59 => ⟨S_, .f32⟩
  | 60 => ⟨S8x512, .f32⟩
  | 61 => ⟨S8x512, .f32⟩
  | 62 => ⟨S8x512, .f32⟩
  | 63 => ⟨S8x512, .f32⟩
  | 64 => ⟨S8x512, .f32⟩
  | 65 => ⟨S8x512, .f32⟩
  | 66 => ⟨S_, .f32⟩
  | 67 => ⟨S8x512, .f32⟩
  | 68 => ⟨S8x512, .f32⟩
  | 69 => ⟨S8x512, .f32⟩
  | 70 => ⟨S8x512, .f32⟩
  | 71 => ⟨S8x512, .f32⟩
  | 72 => ⟨S8x512, .f32⟩
  | 73 => ⟨S_, .f32⟩
  | 74 => ⟨S8x512, .f32⟩
  | 75 => ⟨S8x512, .f32⟩
  | 76 => ⟨S8x512, .f32⟩
  | 77 => ⟨S8x512, .f32⟩
  | 78 => ⟨S_, .f32⟩
  | 79 => ⟨S8x512, .f32⟩
  | 80 => ⟨S8x512, .f32⟩
  | 81 => ⟨S8x512, .f32⟩
  | 82 => ⟨S8x512, .f32⟩
  | 83 => ⟨S8x512, .f32⟩
  | 84 => ⟨S8x512, .f32⟩
  | 85 => ⟨S_, .f32⟩
  | 86 => ⟨S8x512, .f32⟩
  | 87 => ⟨S8x512, .f32⟩
  | 88 => ⟨S8x512, .f32⟩
  | 89 => ⟨S8x512, .f32⟩
  | 90 => ⟨S8x512, .f32⟩
  | 91 => ⟨S8x512, .f32⟩
  | 92 => ⟨S8x512, .f32⟩
  | 93 => ⟨S8x512, .f32⟩
  | 94 => ⟨S8x512, .f32⟩
  | 95 => ⟨S8x512, .f32⟩
  | 96 => ⟨S_, .f32⟩
  | 97 => ⟨S8x512, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S8x512, .f32⟩
  | 109 => ⟨S_, .f32⟩
  | 110 => ⟨S8x512, .f32⟩
  | 111 => ⟨S8x512, .f32⟩
  | 112 => ⟨S_, .f32⟩
  | 113 => ⟨S8x512, .f32⟩
  | 114 => ⟨S8x512, .f32⟩
  | 115 => ⟨S8x512, .f32⟩
  | 116 => ⟨S8x512, .f32⟩
  | 117 => ⟨S_, .f32⟩
  | 118 => ⟨S8x512, .f32⟩
  | 119 => ⟨S8x512, .f32⟩
  | 120 => ⟨S_, .f32⟩
  | 121 => ⟨S8x512, .f32⟩
  | 122 => ⟨S8x512, .f32⟩
  | 123 => ⟨S8x512, .f32⟩
  | 124 => ⟨S8x512, .f32⟩
  | 125 => ⟨S_, .f32⟩
  | 126 => ⟨S8x512, .f32⟩
  | 127 => ⟨S8x512, .f32⟩
  | _ => ⟨S8x512x3, .f32⟩

abbrev hbmTy0_3 (i : Nat) : BufTy := match i % 128 with
  | 0 => ⟨S8x512, .f32⟩
  | 1 => ⟨S8x512, .f32⟩
  | 2 => ⟨S8x512, .f32⟩
  | 3 => ⟨S8x512, .f32⟩
  | 4 => ⟨S_, .f32⟩
  | 5 => ⟨S8x512, .f32⟩
  | 6 => ⟨S8x512, .f32⟩
  | 7 => ⟨S8x512, .f32⟩
  | 8 => ⟨S8x512, .f32⟩
  | 9 => ⟨S_, .f32⟩
  | 10 => ⟨S8x512, .f32⟩
  | 11 => ⟨S8x512, .f32⟩
  | 12 => ⟨S8x512, .f32⟩
  | 13 => ⟨S8x512, .f32⟩
  | 14 => ⟨S8x512, .f32⟩
  | 15 => ⟨S8x512, .f32⟩
  | 16 => ⟨S_, .f32⟩
  | 17 => ⟨S8x512, .f32⟩
  | 18 => ⟨S8x512, .f32⟩
  | 19 => ⟨S8x512, .f32⟩
  | 20 => ⟨S8x512, .f32⟩
  | 21 => ⟨S8x512, .f32⟩
  | 22 => ⟨S8x512, .f32⟩
  | 23 => ⟨S8x512, .f32⟩
  | 24 => ⟨S8x512, .f32⟩
  | 25 => ⟨S8x512, .f32⟩
  | 26 => ⟨S8x512, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S8x512, .f32⟩
  | 38 => ⟨S_, .f32⟩
  | 39 => ⟨S8x512, .f32⟩
  | 40 => ⟨S8x512, .f32⟩
  | 41 => ⟨S_, .f32⟩
  | 42 => ⟨S8x512, .f32⟩
  | 43 => ⟨S8x512, .f32⟩
  | 44 => ⟨S8x512, .f32⟩
  | 45 => ⟨S_, .f32⟩
  | 46 => ⟨S8x512, .f32⟩
  | 47 => ⟨S8x512, .f32⟩
  | 48 => ⟨S8x512, .f32⟩
  | 49 => ⟨S8x512, .f32⟩
  | 50 => ⟨S8x512, .f32⟩
  | 51 => ⟨S_, .f32⟩
  | 52 => ⟨S8x512, .f32⟩
  | 53 => ⟨S8x512, .f32⟩
  | 54 => ⟨S8x512, .f32⟩
  | 55 => ⟨S8x512, .f32⟩
  | 56 => ⟨S8x512, .f32⟩
  | 57 => ⟨S8x512, .f32⟩
  | 58 => ⟨S_, .f32⟩
  | 59 => ⟨S8x512, .f32⟩
  | 60 => ⟨S8x512, .f32⟩
  | 61 => ⟨S8x512, .f32⟩
  | 62 => ⟨S8x512, .f32⟩
  | 63 => ⟨S_, .f32⟩
  | 64 => ⟨S8x512, .f32⟩
  | 65 => ⟨S8x512, .f32⟩
  | 66 => ⟨S8x512, .f32⟩
  | 67 => ⟨S8x512, .f32⟩
  | 68 => ⟨S8x512, .f32⟩
  | 69 => ⟨S8x512, .f32⟩
  | 70 => ⟨S_, .f32⟩
  | 71 => ⟨S8x512, .f32⟩
  | 72 => ⟨S8x512, .f32⟩
  | 73 => ⟨S8x512, .f32⟩
  | 74 => ⟨S8x512, .f32⟩
  | 75 => ⟨S8x512, .f32⟩
  | 76 => ⟨S8x512, .f32⟩
  | 77 => ⟨S8x512, .f32⟩
  | 78 => ⟨S8x512, .f32⟩
  | 79 => ⟨S8x512, .f32⟩
  | 80 => ⟨S8x512, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8x512, .f32⟩
  | 92 => ⟨S_, .f32⟩
  | 93 => ⟨S8x512, .f32⟩
  | 94 => ⟨S8x512, .f32⟩
  | 95 => ⟨S_, .f32⟩
  | 96 => ⟨S8x512, .f32⟩
  | 97 => ⟨S8x512, .f32⟩
  | 98 => ⟨S8x512, .f32⟩
  | 99 => ⟨S_, .f32⟩
  | 100 => ⟨S8x512, .f32⟩
  | 101 => ⟨S8x512, .f32⟩
  | 102 => ⟨S8x512, .f32⟩
  | 103 => ⟨S_, .f32⟩
  | 104 => ⟨S8x512, .f32⟩
  | 105 => ⟨S8x512, .f32⟩
  | 106 => ⟨S_, .f32⟩
  | 107 => ⟨S8x512, .f32⟩
  | 108 => ⟨S8x512, .f32⟩
  | 109 => ⟨S8x512, .f32⟩
  | 110 => ⟨S8x512, .f32⟩
  | 111 => ⟨S_, .f32⟩
  | 112 => ⟨S8x512, .f32⟩
  | 113 => ⟨S8x512, .f32⟩
  | 114 => ⟨S8x512, .f32⟩
  | 115 => ⟨S8x512, .f32⟩
  | 116 => ⟨S8x512, .f32⟩
  | 117 => ⟨S8x512, .f32⟩
  | 118 => ⟨S_, .f32⟩
  | 119 => ⟨S8x512, .f32⟩
  | 120 => ⟨S8x512, .f32⟩
  | 121 => ⟨S8x512, .f32⟩
  | 122 => ⟨S8x512, .f32⟩
  | 123 => ⟨S_, .f32⟩
  | 124 => ⟨S8x512, .f32⟩
  | 125 => ⟨S8x512, .f32⟩
  | 126 => ⟨S8x512, .f32⟩
  | 127 => ⟨S8x512, .f32⟩
  | _ => ⟨S8x512x3, .f32⟩

abbrev hbmTy0_4 (i : Nat) : BufTy := match i % 128 with
  | 0 => ⟨S8x512, .f32⟩
  | 1 => ⟨S8x512, .f32⟩
  | 2 => ⟨S_, .f32⟩
  | 3 => ⟨S8x512, .f32⟩
  | 4 => ⟨S8x512, .f32⟩
  | 5 => ⟨S8x512, .f32⟩
  | 6 => ⟨S8x512, .f32⟩
  | 7 => ⟨S8x512, .f32⟩
  | 8 => ⟨S8x512, .f32⟩
  | 9 => ⟨S8x512, .f32⟩
  | 10 => ⟨S8x512, .f32⟩
  | 11 => ⟨S8x512, .f32⟩
  | 12 => ⟨S8x512, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8x512, .f32⟩
  | 24 => ⟨S_, .f32⟩
  | 25 => ⟨S8x512, .f32⟩
  | 26 => ⟨S8x512, .f32⟩
  | 27 => ⟨S_, .f32⟩
  | 28 => ⟨S8x512, .f32⟩
  | 29 => ⟨S8x512, .f32⟩
  | 30 => ⟨S8x512, .f32⟩
  | 31 => ⟨S_, .f32⟩
  | 32 => ⟨S8x512, .f32⟩
  | 33 => ⟨S8x512, .f32⟩
  | 34 => ⟨S8x512, .f32⟩
  | 35 => ⟨S8x512, .f32⟩
  | 36 => ⟨S8x512, .f32⟩
  | 37 => ⟨S_, .f32⟩
  | 38 => ⟨S8x512, .f32⟩
  | 39 => ⟨S8x512, .f32⟩
  | 40 => ⟨S8x512, .f32⟩
  | 41 => ⟨S8x512, .f32⟩
  | 42 => ⟨S8x512, .f32⟩
  | 43 => ⟨S8x512, .f32⟩
  | 44 => ⟨S_, .f32⟩
  | 45 => ⟨S8x512, .f32⟩
  | 46 => ⟨S8x512, .f32⟩
  | 47 => ⟨S8x512, .f32⟩
  | 48 => ⟨S8x512, .f32⟩
  | 49 => ⟨S_, .f32⟩
  | 50 => ⟨S8x512, .f32⟩
  | 51 => ⟨S8x512, .f32⟩
  | 52 => ⟨S8x512, .f32⟩
  | 53 => ⟨S8x512, .f32⟩
  | 54 => ⟨S8x512, .f32⟩
  | 55 => ⟨S8x512, .f32⟩
  | 56 => ⟨S_, .f32⟩
  | 57 => ⟨S8x512, .f32⟩
  | 58 => ⟨S8x512, .f32⟩
  | 59 => ⟨S8x512, .f32⟩
  | 60 => ⟨S8x512, .f32⟩
  | 61 => ⟨S8x512, .f32⟩
  | 62 => ⟨S8x512, .f32⟩
  | 63 => ⟨S8x512, .f32⟩
  | 64 => ⟨S8x512, .f32⟩
  | 65 => ⟨S8x512, .f32⟩
  | 66 => ⟨S8x512, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8x512, .f32⟩
  | 78 => ⟨S_, .f32⟩
  | 79 => ⟨S8x512, .f32⟩
  | 80 => ⟨S8x512, .f32⟩
  | 81 => ⟨S_, .f32⟩
  | 82 => ⟨S8x512, .f32⟩
  | 83 => ⟨S8x512, .f32⟩
  | 84 => ⟨S8x512, .f32⟩
  | 85 => ⟨S8x512, .f32⟩
  | 86 => ⟨S_, .f32⟩
  | 87 => ⟨S8x512, .f32⟩
  | 88 => ⟨S8x512, .f32⟩
  | 89 => ⟨S_, .f32⟩
  | 90 => ⟨S8x512, .f32⟩
  | 91 => ⟨S8x512, .f32⟩
  | 92 => ⟨S8x512, .f32⟩
  | 93 => ⟨S8x512, .f32⟩
  | 94 => ⟨S_, .f32⟩
  | 95 => ⟨S8x512, .f32⟩
  | 96 => ⟨S8x512, .f32⟩
  | 97 => ⟨S8x512, .f32⟩
  | 98 => ⟨S8x512, .f32⟩
  | 99 => ⟨S8x512, .f32⟩
  | 100 => ⟨S8x512, .f32⟩
  | 101 => ⟨S_, .f32⟩
  | 102 => ⟨S8x512, .f32⟩
  | 103 => ⟨S8x512, .f32⟩
  | 104 => ⟨S8x512, .f32⟩
  | 105 => ⟨S8x512, .f32⟩
  | 106 => ⟨S_, .f32⟩
  | 107 => ⟨S8x512, .f32⟩
  | 108 => ⟨S8x512, .f32⟩
  | 109 => ⟨S8x512, .f32⟩
  | 110 => ⟨S8x512, .f32⟩
  | 111 => ⟨S8x512, .f32⟩
  | 112 => ⟨S8x512, .f32⟩
  | 113 => ⟨S_, .f32⟩
  | 114 => ⟨S8x512, .f32⟩
  | 115 => ⟨S8x512, .f32⟩
  | 116 => ⟨S8x512, .f32⟩
  | 117 => ⟨S8x512, .f32⟩
  | 118 => ⟨S8x512, .f32⟩
  | 119 => ⟨S8x512, .f32⟩
  | 120 => ⟨S8x512, .f32⟩
  | 121 => ⟨S8x512, .f32⟩
  | 122 => ⟨S8x512, .f32⟩
  | 123 => ⟨S8x512, .f32⟩
  | 124 => ⟨S8x512x1, .f32⟩
  | 125 => ⟨S8x512x1, .f32⟩
  | 126 => ⟨S8x512x1, .f32⟩
  | 127 => ⟨S8x512x3, .f32⟩
  | _ => ⟨S8x512x3, .f32⟩

abbrev hbmTy0_5 (i : Nat) : BufTy := match i % 128 with
  | 0 => ⟨S8x512x3, .f32⟩
  | 1 => ⟨S_, .f32⟩
  | 2 => ⟨S8x512, .f32⟩
  | 3 => ⟨S8x512, .i1⟩
  | 4 => ⟨S8x512x1, .i1⟩
  | 5 => ⟨S_, .f32⟩
  | 6 => ⟨S_, .f32⟩
  | 7 => ⟨S8x512x3, .i1⟩
  | 8 => ⟨S8x512x3, .f32⟩
  | 9 => ⟨S8x512x3, .f32⟩
  | 10 => ⟨S8x15360, .i32⟩
  | 11 => ⟨S8x15360x1, .i32⟩
  | 12 => ⟨S_, .i32⟩
  | 13 => ⟨S8x15360x1, .i32⟩
  | 14 => ⟨S8x15360x1, .i1⟩
  | 15 => ⟨S_, .i32⟩
  | 16 => ⟨S8x15360x1, .i32⟩
  | 17 => ⟨S8x15360x1, .i32⟩
  | 18 => ⟨S8x15360x1, .i32⟩
  | 19 => ⟨S8x15360x3, .f32⟩
  | 20 => ⟨S8x512x30x3, .f32⟩
  | 21 => ⟨S8x512x1, .i32⟩
  | 22 => ⟨S8x1x512, .i32⟩
  | 23 => ⟨S8x512x512, .i32⟩
  | 24 => ⟨S8x512x512, .i32⟩
  | 25 => ⟨S8x512x512, .i32⟩
  | 26 => ⟨S_, .i32⟩
  | 27 => ⟨S8x512x30, .i32⟩
  | 28 => ⟨S8x512x30, .i1⟩
  | 29 => ⟨S_, .i32⟩
  | 30 => ⟨S8x512x30, .i32⟩
  | 31 => ⟨S8x512x30, .i32⟩
  | 32 => ⟨S8x512x30, .i32⟩
  | 33 => ⟨S8x512x30x1, .i32⟩
  | 34 => ⟨S8x512x30, .i32⟩
  | 35 => ⟨S8x512x1, .i32⟩
  | 36 => ⟨S8x1x512, .i32⟩
  | 37 => ⟨S8x512x512, .i32⟩
  | 38 => ⟨S8x512x512, .i32⟩
  | 39 => ⟨S8x512x512, .i32⟩
  | 40 => ⟨S_, .i32⟩
  | 41 => ⟨S8x512x512, .i32⟩
  | 42 => ⟨S8x512x512, .i1⟩
  | 43 => ⟨S8x512x512, .i32⟩
  | 44 => ⟨S_, .i32⟩
  | 45 => ⟨S8x512x30, .i32⟩
  | 46 => ⟨S8x512x30, .i1⟩
  | 47 => ⟨S_, .i32⟩
  | 48 => ⟨S8x512x30, .i32⟩
  | 49 => ⟨S8x512x30, .i32⟩
  | 50 => ⟨S8x512x30, .i32⟩
  | 51 => ⟨S8x512x30x1, .i32⟩
  | 52 => ⟨S8x512x30, .i32⟩
  | 53 => ⟨S_, .i32⟩
  | 54 => ⟨S8x512x30, .i32⟩
  | 55 => ⟨S8x512x30, .i32⟩
  | 56 => ⟨S_, .i32⟩
  | 57 => ⟨S_, .i32⟩
  | 58 => ⟨S_, .i32⟩
  | 59 => ⟨S8x512x30, .i32⟩
  | 60 => ⟨S8x512x30, .i32⟩
  | 61 => ⟨S_, .i32⟩
  | 62 => ⟨S8x512x30, .i32⟩
  | 63 => ⟨S8x512x30, .i32⟩
  | 64 => ⟨S8x512x30, .i32⟩
  | 65 => ⟨S_, .i32⟩
  | 66 => ⟨S8x512x30, .i32⟩
  | 67 => ⟨S8x512x30, .i32⟩
  | 68 => ⟨S_, .i32⟩
  | 69 => ⟨S8x512x30, .i32⟩
  | 70 => ⟨S8x512x30, .i32⟩
  | 71 => ⟨S8x512x30, .i32⟩
  | 72 => ⟨S8x512x30x1, .i32⟩
  | 73 => ⟨S1x1x1x66, .i32⟩
  | 74 => ⟨S8x512x30x66, .i32⟩
  | 75 => ⟨S8x512x30x66, .i32⟩
  | 76 => ⟨S8x512x30x66, .i1⟩
  | 77 => ⟨S8x512x30x66, .f32⟩
  | 78 => ⟨S66x16, .f32⟩
  | 79 => ⟨S8x512x30x16, .f32⟩
  | 80 => ⟨S1x1x1x16, .f32⟩
  | 81 => ⟨S8x512x30x16, .f32⟩
  | 82 => ⟨S8x512x30x16, .f32⟩
  | 83 => ⟨S8x512x30x163, .f32⟩
  | 84 => ⟨S163x128, .f32⟩
  | 85 => ⟨S8x512x30x128, .f32⟩
  | 86 => ⟨S_, .f32⟩
  | 87 => ⟨S8x512x30, .f32⟩
  | 88 => ⟨S8x512x30x1, .f32⟩
  | 89 => ⟨S_, .f32⟩
  | 90 => ⟨S8x512x30x1, .f32⟩
  | 91 => ⟨S8x512x30x1, .f32⟩
  | 92 => ⟨S_, .i32⟩
  | 93 => ⟨S_, .f32⟩
  | 94 => ⟨S8x512x30, .f32⟩
  | 95 => ⟨S8x512x30x1, .f32⟩
  | 96 => ⟨S_, .f32⟩
  | 97 => ⟨S8x512x30x1, .f32⟩
  | 98 => ⟨S8x512x30x1, .f32⟩
  | 99 => ⟨S8x512x30x128, .f32⟩
  | 100 => ⟨S8x512x30x128, .f32⟩
  | 101 => ⟨S8x512x30x128, .f32⟩
  | 102 => ⟨S_, .f32⟩
  | 103 => ⟨S_, .f32⟩
  | 104 => ⟨S_, .f32⟩
  | 105 => ⟨S_, .f32⟩
  | 106 => ⟨S8x512x30, .f32⟩
  | 107 => ⟨S8x512x30x1, .f32⟩
  | 108 => ⟨S8x512x30x1, .f32⟩
  | 109 => ⟨S8x512x30x1, .f32⟩
  | 110 => ⟨S_, .f32⟩
  | 111 => ⟨S_, .i1⟩
  | 112 => ⟨S_, .f32⟩
  | 113 => ⟨S_, .f32⟩
  | 114 => ⟨S8x512x30x1, .f32⟩
  | 115 => ⟨S8x512x30x1, .f32⟩
  | 116 => ⟨S8x512x30x128, .f32⟩
  | 117 => ⟨S8x512x30x128, .f32⟩
  | 118 => ⟨S_, .f32⟩
  | 119 => ⟨S8x512x30x1, .f32⟩
  | 120 => ⟨S8x512x30x1, .f32⟩
  | 121 => ⟨S8x512x30x1, .f32⟩
  | 122 => ⟨S8x512x30x128, .f32⟩
  | 123 => ⟨S8x512x30x128, .f32⟩
  | 124 => ⟨S1x1x1x128, .f32⟩
  | 125 => ⟨S8x512x30x128, .f32⟩
  | 126 => ⟨S8x512x30x128, .f32⟩
  | 127 => ⟨S1x1x1x128, .f32⟩
  | _ => ⟨S8x512x3, .f32⟩

abbrev hbmTy0_6 (i : Nat) : BufTy := match i % 128 with
  | 0 => ⟨S8x512x30x128, .f32⟩
  | 1 => ⟨S8x512x30x128, .f32⟩
  | _ => ⟨S8x512x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x512x3, .f32⟩

abbrev bufTy : (tb : Table) → Fin (tcTables nBuf tb) → BufTy
  | .hbm, ⟨i, _⟩ => hbmTy i
  | _, _ => ⟨S8x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_values : Ref sig .tc := ⟨.hbm, 37, rfl⟩
abbrev main_indices : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_cst_7 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_cst : Ref sig .tc := ⟨.hbm, 96, rfl⟩
abbrev main_call3_v3 : Ref sig .tc := ⟨.hbm, 97, rfl⟩
abbrev main_call3_v4 : Ref sig .tc := ⟨.hbm, 98, rfl⟩
abbrev main_call3_cst_0 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_cst_1 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_v15 : Ref sig .tc := ⟨.hbm, 111, rfl⟩
abbrev main_call3_v16 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_8 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_9 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_10 : Ref sig .tc := ⟨.hbm, 140, rfl⟩
abbrev main_v87 : Ref sig .tc := ⟨.hbm, 141, rfl⟩
abbrev main_cst_11 : Ref sig .tc := ⟨.hbm, 142, rfl⟩
abbrev main_v88 : Ref sig .tc := ⟨.hbm, 143, rfl⟩
abbrev main_cst_12 : Ref sig .tc := ⟨.hbm, 144, rfl⟩
abbrev main_v89 : Ref sig .tc := ⟨.hbm, 145, rfl⟩
abbrev main_cst_13 : Ref sig .tc := ⟨.hbm, 146, rfl⟩
abbrev main_v90 : Ref sig .tc := ⟨.hbm, 147, rfl⟩
abbrev main_v91 : Ref sig .tc := ⟨.hbm, 148, rfl⟩
abbrev main_cst_14 : Ref sig .tc := ⟨.hbm, 149, rfl⟩
abbrev main_cst_15 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_16 : Ref sig .tc := ⟨.hbm, 155, rfl⟩
abbrev main_v96 : Ref sig .tc := ⟨.hbm, 156, rfl⟩
abbrev main_v97 : Ref sig .tc := ⟨.hbm, 157, rfl⟩
abbrev main_cst_17 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_18 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_19 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_20 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_21 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_22 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_cst_23 : Ref sig .tc := ⟨.hbm, 196, rfl⟩
abbrev main_v130 : Ref sig .tc := ⟨.hbm, 197, rfl⟩
abbrev main_cst_24 : Ref sig .tc := ⟨.hbm, 198, rfl⟩
abbrev main_v131 : Ref sig .tc := ⟨.hbm, 199, rfl⟩
abbrev main_cst_25 : Ref sig .tc := ⟨.hbm, 200, rfl⟩
abbrev main_v132 : Ref sig .tc := ⟨.hbm, 201, rfl⟩
abbrev main_v133 : Ref sig .tc := ⟨.hbm, 202, rfl⟩
abbrev main_cst_26 : Ref sig .tc := ⟨.hbm, 203, rfl⟩
abbrev main_cst_27 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_28 : Ref sig .tc := ⟨.hbm, 209, rfl⟩
abbrev main_v138 : Ref sig .tc := ⟨.hbm, 210, rfl⟩
abbrev main_v139 : Ref sig .tc := ⟨.hbm, 211, rfl⟩
abbrev main_cst_29 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_30 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_31 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_32 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_33 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_cst_34 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_cst_35 : Ref sig .tc := ⟨.hbm, 251, rfl⟩
abbrev main_v173 : Ref sig .tc := ⟨.hbm, 252, rfl⟩
abbrev main_cst_36 : Ref sig .tc := ⟨.hbm, 253, rfl⟩
abbrev main_v174 : Ref sig .tc := ⟨.hbm, 254, rfl⟩
abbrev main_v175 : Ref sig .tc := ⟨.hbm, 255, rfl⟩
abbrev main_cst_37 : Ref sig .tc := ⟨.hbm, 256, rfl⟩
abbrev main_cst_38 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_cst_39 : Ref sig .tc := ⟨.hbm, 262, rfl⟩
abbrev main_v180 : Ref sig .tc := ⟨.hbm, 263, rfl⟩
abbrev main_v181 : Ref sig .tc := ⟨.hbm, 264, rfl⟩
abbrev main_cst_40 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_41 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_cst_42 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_cst_43 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_cst_44 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_45 : Ref sig .tc := ⟨.hbm, 301, rfl⟩
abbrev main_v213 : Ref sig .tc := ⟨.hbm, 302, rfl⟩
abbrev main_cst_46 : Ref sig .tc := ⟨.hbm, 303, rfl⟩
abbrev main_v214 : Ref sig .tc := ⟨.hbm, 304, rfl⟩
abbrev main_v215 : Ref sig .tc := ⟨.hbm, 305, rfl⟩
abbrev main_cst_47 : Ref sig .tc := ⟨.hbm, 306, rfl⟩
abbrev main_cst_48 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_cst_49 : Ref sig .tc := ⟨.hbm, 312, rfl⟩
abbrev main_v220 : Ref sig .tc := ⟨.hbm, 313, rfl⟩
abbrev main_v221 : Ref sig .tc := ⟨.hbm, 314, rfl⟩
abbrev main_cst_50 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_cst_51 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_cst_52 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_cst_53 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_cst_54 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_cst_55 : Ref sig .tc := ⟨.hbm, 352, rfl⟩
abbrev main_v254 : Ref sig .tc := ⟨.hbm, 353, rfl⟩
abbrev main_cst_56 : Ref sig .tc := ⟨.hbm, 354, rfl⟩
abbrev main_v255 : Ref sig .tc := ⟨.hbm, 355, rfl⟩
abbrev main_cst_57 : Ref sig .tc := ⟨.hbm, 356, rfl⟩
abbrev main_v256 : Ref sig .tc := ⟨.hbm, 357, rfl⟩
abbrev main_v257 : Ref sig .tc := ⟨.hbm, 358, rfl⟩
abbrev main_cst_58 : Ref sig .tc := ⟨.hbm, 359, rfl⟩
abbrev main_cst_59 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_cst_60 : Ref sig .tc := ⟨.hbm, 365, rfl⟩
abbrev main_v262 : Ref sig .tc := ⟨.hbm, 366, rfl⟩
abbrev main_v263 : Ref sig .tc := ⟨.hbm, 367, rfl⟩
abbrev main_cst_61 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_cst_62 : Ref sig .tc := ⟨.hbm, 373, rfl⟩
abbrev main_v268 : Ref sig .tc := ⟨.hbm, 374, rfl⟩
abbrev main_v269 : Ref sig .tc := ⟨.hbm, 375, rfl⟩
abbrev main_cst_63 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_cst_64 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_cst_65 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_cst_66 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_cst_67 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_cst_68 : Ref sig .tc := ⟨.hbm, 411, rfl⟩
abbrev main_v300 : Ref sig .tc := ⟨.hbm, 412, rfl⟩
abbrev main_cst_69 : Ref sig .tc := ⟨.hbm, 413, rfl⟩
abbrev main_v301 : Ref sig .tc := ⟨.hbm, 414, rfl⟩
abbrev main_v302 : Ref sig .tc := ⟨.hbm, 415, rfl⟩
abbrev main_cst_70 : Ref sig .tc := ⟨.hbm, 416, rfl⟩
abbrev main_cst_71 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_cst_72 : Ref sig .tc := ⟨.hbm, 422, rfl⟩
abbrev main_v307 : Ref sig .tc := ⟨.hbm, 423, rfl⟩
abbrev main_v308 : Ref sig .tc := ⟨.hbm, 424, rfl⟩
abbrev main_cst_73 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_cst_74 : Ref sig .tc := ⟨.hbm, 429, rfl⟩
abbrev main_v312 : Ref sig .tc := ⟨.hbm, 430, rfl⟩
abbrev main_v313 : Ref sig .tc := ⟨.hbm, 431, rfl⟩
abbrev main_v314 : Ref sig .tc := ⟨.hbm, 432, rfl⟩
abbrev main_v315 : Ref sig .tc := ⟨.hbm, 433, rfl⟩
abbrev main_v316 : Ref sig .tc := ⟨.hbm, 434, rfl⟩
abbrev main_cst_75 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_v322 : Ref sig .tc := ⟨.hbm, 441, rfl⟩
abbrev main_cst_76 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_cst_77 : Ref sig .tc := ⟨.hbm, 447, rfl⟩
abbrev main_v327 : Ref sig .tc := ⟨.hbm, 448, rfl⟩
abbrev main_v328 : Ref sig .tc := ⟨.hbm, 449, rfl⟩
abbrev main_v329 : Ref sig .tc := ⟨.hbm, 450, rfl⟩
abbrev main_v330 : Ref sig .tc := ⟨.hbm, 451, rfl⟩
abbrev main_v331 : Ref sig .tc := ⟨.hbm, 452, rfl⟩
abbrev main_v332 : Ref sig .tc := ⟨.hbm, 453, rfl⟩
abbrev main_cst_78 : Ref sig .tc := ⟨.hbm, 454, rfl⟩
abbrev main_v333 : Ref sig .tc := ⟨.hbm, 455, rfl⟩
abbrev main_v334 : Ref sig .tc := ⟨.hbm, 456, rfl⟩
abbrev main_v335 : Ref sig .tc := ⟨.hbm, 457, rfl⟩
abbrev main_v336 : Ref sig .tc := ⟨.hbm, 458, rfl⟩
abbrev main_v337 : Ref sig .tc := ⟨.hbm, 459, rfl⟩
abbrev main_v338 : Ref sig .tc := ⟨.hbm, 460, rfl⟩
abbrev main_v339 : Ref sig .tc := ⟨.hbm, 461, rfl⟩
abbrev main_v340 : Ref sig .tc := ⟨.hbm, 462, rfl⟩
abbrev main_v341 : Ref sig .tc := ⟨.hbm, 463, rfl⟩
abbrev main_v342 : Ref sig .tc := ⟨.hbm, 464, rfl⟩
abbrev main_cst_79 : Ref sig .tc := ⟨.hbm, 465, rfl⟩
abbrev main_v343 : Ref sig .tc := ⟨.hbm, 466, rfl⟩
abbrev main_cst_80 : Ref sig .tc := ⟨.hbm, 467, rfl⟩
abbrev main_v344 : Ref sig .tc := ⟨.hbm, 468, rfl⟩
abbrev main_v345 : Ref sig .tc := ⟨.hbm, 469, rfl⟩
abbrev main_cst_81 : Ref sig .tc := ⟨.hbm, 470, rfl⟩
abbrev main_cst_82 : Ref sig .tc := ⟨.hbm, 471, rfl⟩
abbrev main_v346 : Ref sig .tc := ⟨.hbm, 472, rfl⟩
abbrev main_v347 : Ref sig .tc := ⟨.hbm, 473, rfl⟩
abbrev main_v348 : Ref sig .tc := ⟨.hbm, 474, rfl⟩
abbrev main_v349 : Ref sig .tc := ⟨.hbm, 475, rfl⟩
abbrev main_cst_83 : Ref sig .tc := ⟨.hbm, 476, rfl⟩
abbrev main_v350 : Ref sig .tc := ⟨.hbm, 477, rfl⟩
abbrev main_v351 : Ref sig .tc := ⟨.hbm, 478, rfl⟩
abbrev main_cst_84 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_cst_85 : Ref sig .tc := ⟨.hbm, 483, rfl⟩
abbrev main_v355 : Ref sig .tc := ⟨.hbm, 484, rfl⟩
abbrev main_v356 : Ref sig .tc := ⟨.hbm, 485, rfl⟩
abbrev main_v357 : Ref sig .tc := ⟨.hbm, 486, rfl⟩
abbrev main_cst_86 : Ref sig .tc := ⟨.hbm, 487, rfl⟩
abbrev main_v358 : Ref sig .tc := ⟨.hbm, 488, rfl⟩
abbrev main_v359 : Ref sig .tc := ⟨.hbm, 489, rfl⟩
abbrev main_cst_87 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_cst_88 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_cst_89 : Ref sig .tc := ⟨.hbm, 502, rfl⟩
abbrev main_v370 : Ref sig .tc := ⟨.hbm, 503, rfl⟩
abbrev main_v371 : Ref sig .tc := ⟨.hbm, 504, rfl⟩
abbrev main_v372 : Ref sig .tc := ⟨.hbm, 505, rfl⟩
abbrev main_v373 : Ref sig .tc := ⟨.hbm, 506, rfl⟩
abbrev main_cst_90 : Ref sig .tc := ⟨.hbm, 507, rfl⟩
abbrev main_v374 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_cst_91 : Ref sig .tc := ⟨.hbm, 514, rfl⟩
abbrev main_v380 : Ref sig .tc := ⟨.hbm, 515, rfl⟩
abbrev main_v381 : Ref sig .tc := ⟨.hbm, 516, rfl⟩
abbrev main_v382 : Ref sig .tc := ⟨.hbm, 517, rfl⟩
abbrev main_v383 : Ref sig .tc := ⟨.hbm, 518, rfl⟩
abbrev main_v384 : Ref sig .tc := ⟨.hbm, 519, rfl⟩
abbrev main_v385 : Ref sig .tc := ⟨.hbm, 520, rfl⟩
abbrev main_v386 : Ref sig .tc := ⟨.hbm, 521, rfl⟩
abbrev main_v387 : Ref sig .tc := ⟨.hbm, 522, rfl⟩
abbrev main_v388 : Ref sig .tc := ⟨.hbm, 523, rfl⟩
abbrev main_v389 : Ref sig .tc := ⟨.hbm, 524, rfl⟩
abbrev main_cst_92 : Ref sig .tc := ⟨.hbm, 525, rfl⟩
abbrev main_v390 : Ref sig .tc := ⟨.hbm, 526, rfl⟩
abbrev main_cst_93 : Ref sig .tc := ⟨.hbm, 527, rfl⟩
abbrev main_v391 : Ref sig .tc := ⟨.hbm, 528, rfl⟩
abbrev main_v392 : Ref sig .tc := ⟨.hbm, 529, rfl⟩
abbrev main_cst_94 : Ref sig .tc := ⟨.hbm, 530, rfl⟩
abbrev main_cst_95 : Ref sig .tc := ⟨.hbm, 531, rfl⟩
abbrev main_v393 : Ref sig .tc := ⟨.hbm, 532, rfl⟩
abbrev main_v394 : Ref sig .tc := ⟨.hbm, 533, rfl⟩
abbrev main_v395 : Ref sig .tc := ⟨.hbm, 534, rfl⟩
abbrev main_v396 : Ref sig .tc := ⟨.hbm, 535, rfl⟩
abbrev main_cst_96 : Ref sig .tc := ⟨.hbm, 536, rfl⟩
abbrev main_v397 : Ref sig .tc := ⟨.hbm, 537, rfl⟩
abbrev main_v398 : Ref sig .tc := ⟨.hbm, 538, rfl⟩
abbrev main_cst_97 : Ref sig .tc := ⟨.hbm, 539, rfl⟩
abbrev main_v399 : Ref sig .tc := ⟨.hbm, 540, rfl⟩
abbrev main_v400 : Ref sig .tc := ⟨.hbm, 541, rfl⟩
abbrev main_v401 : Ref sig .tc := ⟨.hbm, 542, rfl⟩
abbrev main_cst_98 : Ref sig .tc := ⟨.hbm, 543, rfl⟩
abbrev main_v402 : Ref sig .tc := ⟨.hbm, 544, rfl⟩
abbrev main_v403 : Ref sig .tc := ⟨.hbm, 545, rfl⟩
abbrev main_v404 : Ref sig .tc := ⟨.hbm, 546, rfl⟩
abbrev main_v405 : Ref sig .tc := ⟨.hbm, 547, rfl⟩
abbrev main_v406 : Ref sig .tc := ⟨.hbm, 548, rfl⟩
abbrev main_cst_99 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_v410 : Ref sig .tc := ⟨.hbm, 553, rfl⟩
abbrev main_v411 : Ref sig .tc := ⟨.hbm, 554, rfl⟩
abbrev main_v412 : Ref sig .tc := ⟨.hbm, 555, rfl⟩
abbrev main_cst_100 : Ref sig .tc := ⟨.hbm, 556, rfl⟩
abbrev main_v413 : Ref sig .tc := ⟨.hbm, 557, rfl⟩
abbrev main_v414 : Ref sig .tc := ⟨.hbm, 558, rfl⟩
abbrev main_v415 : Ref sig .tc := ⟨.hbm, 559, rfl⟩
abbrev main_v416 : Ref sig .tc := ⟨.hbm, 560, rfl⟩
abbrev main_cst_101 : Ref sig .tc := ⟨.hbm, 561, rfl⟩
abbrev main_v417 : Ref sig .tc := ⟨.hbm, 562, rfl⟩
abbrev main_v418 : Ref sig .tc := ⟨.hbm, 563, rfl⟩
abbrev main_v419 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_cst_102 : Ref sig .tc := ⟨.hbm, 568, rfl⟩
abbrev main_v423 : Ref sig .tc := ⟨.hbm, 569, rfl⟩
abbrev main_v424 : Ref sig .tc := ⟨.hbm, 570, rfl⟩
abbrev main_v425 : Ref sig .tc := ⟨.hbm, 571, rfl⟩
abbrev main_v426 : Ref sig .tc := ⟨.hbm, 572, rfl⟩
abbrev main_v427 : Ref sig .tc := ⟨.hbm, 573, rfl⟩
abbrev main_v428 : Ref sig .tc := ⟨.hbm, 574, rfl⟩
abbrev main_v429 : Ref sig .tc := ⟨.hbm, 575, rfl⟩
abbrev main_v430 : Ref sig .tc := ⟨.hbm, 576, rfl⟩
abbrev main_v431 : Ref sig .tc := ⟨.hbm, 577, rfl⟩
abbrev main_v432 : Ref sig .tc := ⟨.hbm, 578, rfl⟩
abbrev main_cst_103 : Ref sig .tc := ⟨.hbm, 579, rfl⟩
abbrev main_v433 : Ref sig .tc := ⟨.hbm, 580, rfl⟩
abbrev main_cst_104 : Ref sig .tc := ⟨.hbm, 581, rfl⟩
abbrev main_v434 : Ref sig .tc := ⟨.hbm, 582, rfl⟩
abbrev main_v435 : Ref sig .tc := ⟨.hbm, 583, rfl⟩
abbrev main_cst_105 : Ref sig .tc := ⟨.hbm, 584, rfl⟩
abbrev main_cst_106 : Ref sig .tc := ⟨.hbm, 585, rfl⟩
abbrev main_v436 : Ref sig .tc := ⟨.hbm, 586, rfl⟩
abbrev main_v437 : Ref sig .tc := ⟨.hbm, 587, rfl⟩
abbrev main_v438 : Ref sig .tc := ⟨.hbm, 588, rfl⟩
abbrev main_v439 : Ref sig .tc := ⟨.hbm, 589, rfl⟩
abbrev main_cst_107 : Ref sig .tc := ⟨.hbm, 590, rfl⟩
abbrev main_v440 : Ref sig .tc := ⟨.hbm, 591, rfl⟩
abbrev main_v441 : Ref sig .tc := ⟨.hbm, 592, rfl⟩
abbrev main_cst_108 : Ref sig .tc := ⟨.hbm, 593, rfl⟩
abbrev main_v442 : Ref sig .tc := ⟨.hbm, 594, rfl⟩
abbrev main_v443 : Ref sig .tc := ⟨.hbm, 595, rfl⟩
abbrev main_v444 : Ref sig .tc := ⟨.hbm, 596, rfl⟩
abbrev main_v445 : Ref sig .tc := ⟨.hbm, 597, rfl⟩
abbrev main_cst_109 : Ref sig .tc := ⟨.hbm, 598, rfl⟩
abbrev main_v446 : Ref sig .tc := ⟨.hbm, 599, rfl⟩
abbrev main_v447 : Ref sig .tc := ⟨.hbm, 600, rfl⟩
abbrev main_cst_110 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_cst_111 : Ref sig .tc := ⟨.hbm, 606, rfl⟩
abbrev main_v452 : Ref sig .tc := ⟨.hbm, 607, rfl⟩
abbrev main_v453 : Ref sig .tc := ⟨.hbm, 608, rfl⟩
abbrev main_v454 : Ref sig .tc := ⟨.hbm, 609, rfl⟩
abbrev main_v455 : Ref sig .tc := ⟨.hbm, 610, rfl⟩
abbrev main_v456 : Ref sig .tc := ⟨.hbm, 611, rfl⟩
abbrev main_v457 : Ref sig .tc := ⟨.hbm, 612, rfl⟩
abbrev main_cst_112 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_v461 : Ref sig .tc := ⟨.hbm, 617, rfl⟩
abbrev main_cst_113 : Ref sig .tc := ⟨.hbm, 618, rfl⟩
abbrev main_v462 : Ref sig .tc := ⟨.hbm, 619, rfl⟩
abbrev main_v463 : Ref sig .tc := ⟨.hbm, 620, rfl⟩
abbrev main_v464 : Ref sig .tc := ⟨.hbm, 621, rfl⟩
abbrev main_v465 : Ref sig .tc := ⟨.hbm, 622, rfl⟩
abbrev main_v466 : Ref sig .tc := ⟨.hbm, 623, rfl⟩
abbrev main_v467 : Ref sig .tc := ⟨.hbm, 624, rfl⟩
abbrev main_cst_114 : Ref sig .tc := ⟨.hbm, 625, rfl⟩
abbrev main_v468 : Ref sig .tc := ⟨.hbm, 626, rfl⟩
abbrev main_v469 : Ref sig .tc := ⟨.hbm, 627, rfl⟩
abbrev main_v470 : Ref sig .tc := ⟨.hbm, 628, rfl⟩
abbrev main_v471 : Ref sig .tc := ⟨.hbm, 629, rfl⟩
abbrev main_v472 : Ref sig .tc := ⟨.hbm, 630, rfl⟩
abbrev main_v473 : Ref sig .tc := ⟨.hbm, 631, rfl⟩
abbrev main_v474 : Ref sig .tc := ⟨.hbm, 632, rfl⟩
abbrev main_v475 : Ref sig .tc := ⟨.hbm, 633, rfl⟩
abbrev main_v476 : Ref sig .tc := ⟨.hbm, 634, rfl⟩
abbrev main_v477 : Ref sig .tc := ⟨.hbm, 635, rfl⟩
abbrev main_v478 : Ref sig .tc := ⟨.hbm, 636, rfl⟩
abbrev main_v479 : Ref sig .tc := ⟨.hbm, 637, rfl⟩
abbrev main_v480 : Ref sig .tc := ⟨.hbm, 638, rfl⟩
abbrev main_v481 : Ref sig .tc := ⟨.hbm, 639, rfl⟩
abbrev main_v482 : Ref sig .tc := ⟨.hbm, 640, rfl⟩
abbrev main_cst_115 : Ref sig .tc := ⟨.hbm, 641, rfl⟩
abbrev main_v483 : Ref sig .tc := ⟨.hbm, 642, rfl⟩
abbrev main_v484 : Ref sig .tc := ⟨.hbm, 643, rfl⟩
abbrev main_v485 : Ref sig .tc := ⟨.hbm, 644, rfl⟩
abbrev main_cst_116 : Ref sig .tc := ⟨.hbm, 645, rfl⟩
abbrev main_call4_v0 : Ref sig .tc := ⟨.hbm, 646, rfl⟩
abbrev main_call4_v1 : Ref sig .tc := ⟨.hbm, 647, rfl⟩
abbrev main_call4_v2 : Ref sig .tc := ⟨.hbm, 648, rfl⟩
abbrev main_v486 : Ref sig .tc := ⟨.hbm, 649, rfl⟩
abbrev main_v487 : Ref sig .tc := ⟨.hbm, 650, rfl⟩
abbrev main_v488 : Ref sig .tc := ⟨.hbm, 651, rfl⟩
abbrev main_call5_c : Ref sig .tc := ⟨.hbm, 652, rfl⟩
abbrev main_call5_v0 : Ref sig .tc := ⟨.hbm, 653, rfl⟩
abbrev main_call5_v1 : Ref sig .tc := ⟨.hbm, 654, rfl⟩
abbrev main_call5_c_0 : Ref sig .tc := ⟨.hbm, 655, rfl⟩
abbrev main_call5_v2 : Ref sig .tc := ⟨.hbm, 656, rfl⟩
abbrev main_call5_v3 : Ref sig .tc := ⟨.hbm, 657, rfl⟩
abbrev main_call5_v4 : Ref sig .tc := ⟨.hbm, 658, rfl⟩
abbrev main_v489 : Ref sig .tc := ⟨.hbm, 659, rfl⟩
abbrev main_v490 : Ref sig .tc := ⟨.hbm, 660, rfl⟩
abbrev main_v491 : Ref sig .tc := ⟨.hbm, 661, rfl⟩
abbrev main_v492 : Ref sig .tc := ⟨.hbm, 662, rfl⟩
abbrev main_v493 : Ref sig .tc := ⟨.hbm, 663, rfl⟩
abbrev main_v494 : Ref sig .tc := ⟨.hbm, 664, rfl⟩
abbrev main_v495 : Ref sig .tc := ⟨.hbm, 665, rfl⟩
abbrev main_call6_c : Ref sig .tc := ⟨.hbm, 666, rfl⟩
abbrev main_call6_v0 : Ref sig .tc := ⟨.hbm, 667, rfl⟩
abbrev main_call6_v1 : Ref sig .tc := ⟨.hbm, 668, rfl⟩
abbrev main_call6_c_0 : Ref sig .tc := ⟨.hbm, 669, rfl⟩
abbrev main_call6_v2 : Ref sig .tc := ⟨.hbm, 670, rfl⟩
abbrev main_call6_v3 : Ref sig .tc := ⟨.hbm, 671, rfl⟩
abbrev main_call6_v4 : Ref sig .tc := ⟨.hbm, 672, rfl⟩
abbrev main_call6_v5 : Ref sig .tc := ⟨.hbm, 673, rfl⟩
abbrev main_v496 : Ref sig .tc := ⟨.hbm, 674, rfl⟩
abbrev main_v497 : Ref sig .tc := ⟨.hbm, 675, rfl⟩
abbrev main_v498 : Ref sig .tc := ⟨.hbm, 676, rfl⟩
abbrev main_v499 : Ref sig .tc := ⟨.hbm, 677, rfl⟩
abbrev main_v500 : Ref sig .tc := ⟨.hbm, 678, rfl⟩
abbrev main_v501 : Ref sig .tc := ⟨.hbm, 679, rfl⟩
abbrev main_c_117 : Ref sig .tc := ⟨.hbm, 680, rfl⟩
abbrev main_v502 : Ref sig .tc := ⟨.hbm, 681, rfl⟩
abbrev main_v503 : Ref sig .tc := ⟨.hbm, 682, rfl⟩
abbrev main_v504 : Ref sig .tc := ⟨.hbm, 683, rfl⟩
abbrev main_call7_c : Ref sig .tc := ⟨.hbm, 684, rfl⟩
abbrev main_call7_v0 : Ref sig .tc := ⟨.hbm, 685, rfl⟩
abbrev main_call7_v1 : Ref sig .tc := ⟨.hbm, 686, rfl⟩
abbrev main_call7_c_0 : Ref sig .tc := ⟨.hbm, 687, rfl⟩
abbrev main_call7_v2 : Ref sig .tc := ⟨.hbm, 688, rfl⟩
abbrev main_call7_v3 : Ref sig .tc := ⟨.hbm, 689, rfl⟩
abbrev main_call7_v4 : Ref sig .tc := ⟨.hbm, 690, rfl⟩
abbrev main_call7_v5 : Ref sig .tc := ⟨.hbm, 691, rfl⟩
abbrev main_v505 : Ref sig .tc := ⟨.hbm, 692, rfl⟩
abbrev main_c_118 : Ref sig .tc := ⟨.hbm, 693, rfl⟩
abbrev main_v506 : Ref sig .tc := ⟨.hbm, 694, rfl⟩
abbrev main_v507 : Ref sig .tc := ⟨.hbm, 695, rfl⟩
abbrev main_c_119 : Ref sig .tc := ⟨.hbm, 696, rfl⟩
abbrev main_c_120 : Ref sig .tc := ⟨.hbm, 697, rfl⟩
abbrev main_call8_v0 : Ref sig .tc := ⟨.hbm, 698, rfl⟩
abbrev main_call8_v1 : Ref sig .tc := ⟨.hbm, 699, rfl⟩
abbrev main_call8_v2 : Ref sig .tc := ⟨.hbm, 700, rfl⟩
abbrev main_call8_v3 : Ref sig .tc := ⟨.hbm, 701, rfl⟩
abbrev main_call8_v4 : Ref sig .tc := ⟨.hbm, 702, rfl⟩
abbrev main_v508 : Ref sig .tc := ⟨.hbm, 703, rfl⟩
abbrev main_v509 : Ref sig .tc := ⟨.hbm, 704, rfl⟩
abbrev main_c_121 : Ref sig .tc := ⟨.hbm, 705, rfl⟩
abbrev main_v510 : Ref sig .tc := ⟨.hbm, 706, rfl⟩
abbrev main_v511 : Ref sig .tc := ⟨.hbm, 707, rfl⟩
abbrev main_c_122 : Ref sig .tc := ⟨.hbm, 708, rfl⟩
abbrev main_v512 : Ref sig .tc := ⟨.hbm, 709, rfl⟩
abbrev main_v513 : Ref sig .tc := ⟨.hbm, 710, rfl⟩
abbrev main_v514 : Ref sig .tc := ⟨.hbm, 711, rfl⟩
abbrev main_call9_v0 : Ref sig .tc := ⟨.hbm, 712, rfl⟩
abbrev main_call9_v1 : Ref sig .tc := ⟨.hbm, 713, rfl⟩
abbrev main_call9_v2 : Ref sig .tc := ⟨.hbm, 714, rfl⟩
abbrev main_call9_v3 : Ref sig .tc := ⟨.hbm, 715, rfl⟩
abbrev main_call9_v4 : Ref sig .tc := ⟨.hbm, 716, rfl⟩
abbrev main_v515 : Ref sig .tc := ⟨.hbm, 717, rfl⟩
abbrev main_v516 : Ref sig .tc := ⟨.hbm, 718, rfl⟩
abbrev main_v517 : Ref sig .tc := ⟨.hbm, 719, rfl⟩
abbrev main_v518 : Ref sig .tc := ⟨.hbm, 720, rfl⟩
abbrev main_v519 : Ref sig .tc := ⟨.hbm, 721, rfl⟩
abbrev main_v520 : Ref sig .tc := ⟨.hbm, 722, rfl⟩
abbrev main_v521 : Ref sig .tc := ⟨.hbm, 723, rfl⟩
abbrev main_v522 : Ref sig .tc := ⟨.hbm, 724, rfl⟩
abbrev main_v523 : Ref sig .tc := ⟨.hbm, 725, rfl⟩
abbrev main_cst_123 : Ref sig .tc := ⟨.hbm, 726, rfl⟩
abbrev main_v524 : Ref sig .tc := ⟨.hbm, 727, rfl⟩
abbrev main_v525 : Ref sig .tc := ⟨.hbm, 728, rfl⟩
abbrev main_cst_124 : Ref sig .tc := ⟨.hbm, 729, rfl⟩
abbrev main_v526 : Ref sig .tc := ⟨.hbm, 730, rfl⟩
abbrev main_v527 : Ref sig .tc := ⟨.hbm, 731, rfl⟩
abbrev main_c_125 : Ref sig .tc := ⟨.hbm, 732, rfl⟩
abbrev main_call10_cst : Ref sig .tc := ⟨.hbm, 733, rfl⟩
abbrev main_call10_v0 : Ref sig .tc := ⟨.hbm, 734, rfl⟩
abbrev main_call10_v1 : Ref sig .tc := ⟨.hbm, 735, rfl⟩
abbrev main_call10_cst_0 : Ref sig .tc := ⟨.hbm, 736, rfl⟩
abbrev main_call10_v2 : Ref sig .tc := ⟨.hbm, 737, rfl⟩
abbrev main_call10_v3 : Ref sig .tc := ⟨.hbm, 738, rfl⟩
abbrev main_call10_v4 : Ref sig .tc := ⟨.hbm, 739, rfl⟩
abbrev main_call10_v5 : Ref sig .tc := ⟨.hbm, 740, rfl⟩
abbrev main_call10_v6 : Ref sig .tc := ⟨.hbm, 741, rfl⟩
abbrev main_call10_v7 : Ref sig .tc := ⟨.hbm, 742, rfl⟩
abbrev main_call10_cst_1 : Ref sig .tc := ⟨.hbm, 743, rfl⟩
abbrev main_call10_v8 : Ref sig .tc := ⟨.hbm, 744, rfl⟩
abbrev main_call10_cst_2 : Ref sig .tc := ⟨.hbm, 745, rfl⟩
abbrev main_call10_v9 : Ref sig .tc := ⟨.hbm, 746, rfl⟩
abbrev main_call10_v10 : Ref sig .tc := ⟨.hbm, 747, rfl⟩
abbrev main_call10_v11 : Ref sig .tc := ⟨.hbm, 748, rfl⟩
abbrev main_call10_v12 : Ref sig .tc := ⟨.hbm, 749, rfl⟩
abbrev main_call10_cst_3 : Ref sig .tc := ⟨.hbm, 750, rfl⟩
abbrev main_call10_v13 : Ref sig .tc := ⟨.hbm, 751, rfl⟩
abbrev main_call10_cst_4 : Ref sig .tc := ⟨.hbm, 752, rfl⟩
abbrev main_call10_call0_v0 : Ref sig .tc := ⟨.hbm, 753, rfl⟩
abbrev main_call10_call0_v1 : Ref sig .tc := ⟨.hbm, 754, rfl⟩
abbrev main_v528 : Ref sig .tc := ⟨.hbm, 755, rfl⟩
abbrev main_v529 : Ref sig .tc := ⟨.hbm, 756, rfl⟩
abbrev main_v530 : Ref sig .tc := ⟨.hbm, 757, rfl⟩
abbrev main_cst_126 : Ref sig .tc := ⟨.hbm, 758, rfl⟩
abbrev main_v531 : Ref sig .tc := ⟨.hbm, 759, rfl⟩
abbrev main_v532 : Ref sig .tc := ⟨.hbm, 760, rfl⟩
abbrev main_v533 : Ref sig .tc := ⟨.hbm, 761, rfl⟩
abbrev main_v534 : Ref sig .tc := ⟨.hbm, 762, rfl⟩
abbrev main_v535 : Ref sig .tc := ⟨.hbm, 763, rfl⟩
abbrev main_v536 : Ref sig .tc := ⟨.hbm, 764, rfl⟩
abbrev main_v537 : Ref sig .tc := ⟨.hbm, 765, rfl⟩
abbrev main_v538 : Ref sig .tc := ⟨.hbm, 766, rfl⟩
abbrev main_v539 : Ref sig .tc := ⟨.hbm, 767, rfl⟩
abbrev main_v540 : Ref sig .tc := ⟨.hbm, 768, rfl⟩
abbrev main_v541 : Ref sig .tc := ⟨.hbm, 769, rfl⟩

abbrev nD : Nat := 1
abbrev τ : Topo := Topo.v7x

variable {F : FTy → Type} [FloatOps F]
-- ==== Proof.Frames.lean ====
/- The claims about runs and about the named constants: every program runs and leaves its arguments, and the kernel's named
   constants denote the values the table gives them. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_as_set_up
public import Idealize.ShloMosaic.Lib.Quiescent

@[expose] public section

noncomputable section

namespace Cert.Proof.Frames

open Idealize.ShloMosaic Idealize.ShloMosaic.TcCoe Idealize.SL.Sem

/-- The kernel as printed runs, keeps its arguments and leaves every counter at zero. -/
theorem kernel : Cert.quiescent_Kernel := fun m ρ _ => Cert.Kernel.Gen.frame m ρ

/-- The idealized kernel runs, keeps its arguments and leaves every counter at zero. -/
theorem kernelIdeal : Cert.quiescent_KernelIdeal := fun m ρ _ => Cert.KernelIdeal.Gen.frame m ρ

/-- The same from arguments as they are set up. -/
theorem kernelIdealSetUp : Cert.quiescent_KernelIdeal_pre_as_set_up := fun m ρ _ => Cert.KernelIdeal.Gen.frame m ρ

/-- The reference runs, keeps its arguments and leaves every counter at zero. -/
theorem referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same from arguments as they are set up. -/
theorem referenceIdealSetUp : Cert.quiescent_ReferenceIdeal_pre_as_set_up := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each named constant of the kernel denotes the value the table states for it. -/
theorem preserves : Cert.preserves_Kernel_KernelIdeal :=
  ⟨IdealRules.named_const.statement Cert.KernelIdeal.κ "pref4_0p0" .f32 0x3BCF817B#32 (((1 / 16) * (Real.pi⁻¹ * Real.pi⁻¹) : ℝ) : EReal) rfl,
   IdealRules.named_const.statement Cert.KernelIdeal.κ "pref4_1m1" .f32 0x3E6971AA#32 (((9 / 4) * (Real.pi⁻¹ * Real.pi⁻¹) : ℝ) : EReal) rfl,
   IdealRules.named_const.statement Cert.KernelIdeal.κ "pref4_1p0" .f32 0x3D6971AA#32 (((9 / 16) * (Real.pi⁻¹ * Real.pi⁻¹) : ℝ) : EReal) rfl,
   IdealRules.named_const.statement Cert.KernelIdeal.κ "pref4_1p1" .f32 0x3C6971AA#32 (((9 / 64) * (Real.pi⁻¹ * Real.pi⁻¹) : ℝ) : EReal) rfl,
   IdealRules.named_const.statement Cert.KernelIdeal.κ "pref4_2m2" .f32 0x42B660CD#32 ((900 * (Real.pi⁻¹ * Real.pi⁻¹) : ℝ) : EReal) rfl,
   IdealRules.named_const.statement Cert.KernelIdeal.κ "pref4_2m1" .f32 0x40B660CD#32 (((225 / 4) * (Real.pi⁻¹ * Real.pi⁻¹) : ℝ) : EReal) rfl,
   IdealRules.named_const.statement Cert.KernelIdeal.κ "pref4_2p0" .f32 0x3E221D28#32 (((25 / 16) * (Real.pi⁻¹ * Real.pi⁻¹) : ℝ) : EReal) rfl,
   IdealRules.named_const.statement Cert.KernelIdeal.κ "pref4_2p1" .f32 0x3B9019EB#32 (((25 / 576) * (Real.pi⁻¹ * Real.pi⁻¹) : ℝ) : EReal) rfl,
   IdealRules.named_const.statement Cert.KernelIdeal.κ "pref4_2p2" .f32 0x399019EB#32 (((25 / 9216) * (Real.pi⁻¹ * Real.pi⁻¹) : ℝ) : EReal) rfl,
   IdealRules.named_const.statement Cert.KernelIdeal.κ "mu_step" .f32 0x3FAAAAAB#32 ((4 / 3 : ℝ) : EReal) rfl⟩

end Cert.Proof.Frames

end
-- ==== Proof.KernelRun.lean ====
/- The kernel's run with its two results named: what the generated frame states about the arguments, stated as well about
   the buffers the two result arrays live in. -/
module

public import proofs.«01_k».proof.Defs
public import proofs.«01_k».proof.Proof.Gen.KernelIdeal.Frame

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution of the kernel's program terminates; the edge features and the
    neighbour indices end at what the last boundary's contents hold there, and the arguments end as launched. -/
theorem results : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_v1_1) = W5 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v20 (by decide)), h c _ (mem_uc main_v1_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.Proof.KRun

end
-- ==== Proof.Arrays.lean ====
/- The first call's result arrays after its grid: each block is what the body leaves for its batch entry. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proof.Arrays

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index maps of the first call's windows. -/
theorem idx0 : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0]
    ∧ win0_4.index t = ![(grid0.coords t 0).val, 0, 0] :=
  (by decide +kernel : ∀ t : Fin grid0.N, _)

/-- The coordinates as launched. -/
abbrev ca (c : Dev nD) : FVec Ideal S8x512x3 .f32 := m ((c.tc : Thread nD τ).loc main_arg0)

/-- One batch entry's coordinates. -/
def caBlk (x : FVec Ideal S8x512x3 .f32) (b : Fin 8) : Vec Ideal S1x512x3 .f32 := fun y => x (ix3 b (y 1) (y 2))
/-- The same transposed. -/
def catBlk (x : FVec Ideal S8x512x3 .f32) (b : Fin 8) : Vec Ideal S1x3x512 .f32 := fun y => x (ix3 b (y 2) (y 1))

/-- The first call reads the coordinates as launched. -/
theorem V1_ca (c : Dev nD) : V1 m ρ c main_arg0 = ca m c := W1_args m ρ c main_arg0 (by decide)

/-- The first call's second operand is the coordinates with their last two axes swapped. -/
theorem V1_cat (c : Dev nD) : V1 m ρ c main_v0 = transpose S8x3x512 [0, 2, 1] (ca m c) transposes_S8x512x3_S8x3x512_0_2_1 := by
  show StableHlo.after hostOps0 (W0 m ρ c) (Proc.devRef .tc main_v0) = _
  entry_read
  rfl

/-- A grid step's first block is its batch entry's coordinates. -/
theorem blk0 (c : Dev nD) (t : Fin cfg0.N) : iblk0 (V1 m ρ) c 0 t = caBlk (ca m c) (grid0.coords t 0) := by
  funext y
  unfold caBlk
  rw [← V1_ca m ρ c]
  blk_ext [iblk0, idx0 t]

/-- A grid step's second block is its batch entry's coordinates, swapped. -/
theorem blk1 (c : Dev nD) (t : Fin cfg0.N) : iblk0 (V1 m ρ) c 1 t = catBlk (ca m c) (grid0.coords t 0) := by
  funext y
  have e : catBlk (ca m c) (grid0.coords t 0) y = V1 m ρ c main_v0 (ix3 (grid0.coords t 0) (y 1) (y 2)) := by
    rw [V1_cat]
    pointwise [catBlk]
  rw [e]
  blk_ext [iblk0, idx0 t]

/-- The first call's result in window 2, entry by entry. -/
theorem final2 (c : Dev nD) : (dat0 (V1 m ρ) c).arrAt 2 cfg0.N
    = (fun i => out0_2 (caBlk (ca m c) (i 0)) (catBlk (ca m c) (i 0)) (ix3 0 (i 1) (i 2)) : Vec Ideal S8x512x30 .f32) := by
  refine (dat0 (V1 m ρ) c).arrAt_eq_of_covers 2 _ (by decide +kernel) fun t _ y => ?_
  blk_simp
  rw [after0_2, blk0, blk1]
  have e0 : (win0_2.blk t).view.emb y 0 = grid0.coords t 0 := Fin.ext (by
    blk_simp [idx0 t])
  rw [e0]
  refine congrArg _ ?_
  blk_ext [idx0 t]

/-- The first call's result in window 3, entry by entry. -/
theorem final3 (c : Dev nD) : (dat0 (V1 m ρ) c).arrAt 3 cfg0.N
    = (fun i => out0_3 (caBlk (ca m c) (i 0)) (catBlk (ca m c) (i 0)) (ix3 0 (i 1) (i 2)) : Vec Ideal S8x512x30 .i32) := by
  refine (dat0 (V1 m ρ) c).arrAt_eq_of_covers 3 _ (by decide +kernel) fun t _ y => ?_
  blk_simp
  rw [after0_3, blk0, blk1]
  have e0 : (win0_3.blk t).view.emb y 0 = grid0.coords t 0 := Fin.ext (by
    blk_simp [idx0 t])
  rw [e0]
  refine congrArg _ ?_
  blk_ext [idx0 t]

/-- The first call's result in window 4, entry by entry. -/
theorem final4 (c : Dev nD) : (dat0 (V1 m ρ) c).arrAt 4 cfg0.N
    = (fun i => out0_4 (caBlk (ca m c) (i 0)) (catBlk (ca m c) (i 0)) (ix3 0 (i 1) (i 2)) : Vec Ideal S8x512x3 .f32) := by
  refine (dat0 (V1 m ρ) c).arrAt_eq_of_covers 4 _ (by decide +kernel) fun t _ y => ?_
  blk_simp
  rw [after0_4, blk0, blk1]
  have e0 : (win0_4.blk t).view.emb y 0 = grid0.coords t 0 := Fin.ext (by
    blk_simp [idx0 t])
  rw [e0]
  refine congrArg _ ?_
  blk_ext [idx0 t]

end Cert.Proof.Arrays

end
-- ==== Proof.Host.lean ====
/- The host's operations between the two calls, and the second call's arrays as it starts. -/
module

public import proofs.«01_k».proof.Proof.Arrays
public import Idealize.ShloMosaic.Lib.StableHlo.RunRead

@[expose] public section

set_option maxRecDepth 16384

noncomputable section

namespace Cert.Proof.Arrays

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row of zeros per batch entry. -/
def zrow : FVec Ideal S8x1x3 .f32 := broadcastInDim S8x1x3 ![] bcast_S_S8x1x3 (constant S_ .f32 0x00000000#32)
/-- Five columns of zeros. -/
def zcols : FVec Ideal S8x512x5 .f32 := broadcastInDim S8x512x5 ![] bcast_S_S8x512x5 (constant S_ .f32 0x00000000#32)
/-- The coordinates moved one residue forward, a zero row first. -/
def fwd (x : FVec Ideal S8x512x3 .f32) : FVec Ideal S8x512x3 .f32 :=
  concatenate S8x512x3 1 [⟨S8x1x3, zrow⟩, ⟨S8x511x3, extractStridedSlice S8x511x3 ![0, 0, 0] x slices_S8x512x3_S8x511x3_0_0_0⟩]
    concatenates_S8x1x3_S8x511x3_S8x512x3_d1
/-- The coordinates moved one residue back, a zero row last. -/
def bwd (x : FVec Ideal S8x512x3 .f32) : FVec Ideal S8x512x3 .f32 :=
  concatenate S8x512x3 1 [⟨S8x511x3, extractStridedSlice S8x511x3 ![0, 1, 0] x slices_S8x512x3_S8x511x3_0_1_0⟩, ⟨S8x1x3, zrow⟩]
    concatenates_S8x511x3_S8x1x3_S8x512x3_d1
/-- The eight left operands of the pair distances, side by side. -/
def gaOf (x : FVec Ideal S8x512x3 .f32) : FVec Ideal S8x512x24 .f32 :=
  concatenate S8x512x24 2 [⟨S8x512x3, fwd x⟩, ⟨S8x512x3, bwd x⟩, ⟨S8x512x3, fwd x⟩, ⟨S8x512x3, fwd x⟩, ⟨S8x512x3, x⟩, ⟨S8x512x3, x⟩,
    ⟨S8x512x3, bwd x⟩, ⟨S8x512x3, bwd x⟩]
    concatenates_S8x512x3_S8x512x3_S8x512x3_S8x512x3_S8x512x3_S8x512x3_S8x512x3_S8x512x3_S8x512x24_d2
/-- The eight right operands, the harmonics and the five zero columns, side by side. -/
def gbOf (x s : FVec Ideal S8x512x3 .f32) : FVec Ideal S8x512x32 .f32 :=
  concatenate S8x512x32 2 [⟨S8x512x3, fwd x⟩, ⟨S8x512x3, bwd x⟩, ⟨S8x512x3, x⟩, ⟨S8x512x3, bwd x⟩, ⟨S8x512x3, fwd x⟩, ⟨S8x512x3, bwd x⟩,
    ⟨S8x512x3, fwd x⟩, ⟨S8x512x3, x⟩, ⟨S8x512x3, s⟩, ⟨S8x512x5, zcols⟩]
    concatenates_S8x512x3_S8x512x3_S8x512x3_S8x512x3_S8x512x3_S8x512x3_S8x512x3_S8x512x3_S8x512x3_S8x512x5_S8x512x32_d2

section Read
variable (W : Valuation τ sig (Elt Ideal))

/-- After six steps between the calls, the coordinates shifted forward are ready. -/
theorem u6_v4 : StableHlo.upto hostOps1 W 6 (Proc.devRef .tc main_v4) = fwd (W (Proc.devRef .tc main_arg0)) := by
  after_reads_simp
  rfl
/-- After six steps, the coordinates shifted backward are ready. -/
theorem u6_v6 : StableHlo.upto hostOps1 W 6 (Proc.devRef .tc main_v6) = bwd (W (Proc.devRef .tc main_arg0)) := by
  after_reads_simp
  rfl
/-- After six steps, the coordinates are untouched. -/
theorem u6_x : StableHlo.upto hostOps1 W 6 (Proc.devRef .tc main_arg0) = W (Proc.devRef .tc main_arg0) := by
  after_reads_simp
/-- After nine steps, the coordinates shifted forward are still there. -/
theorem u9_v4 : StableHlo.upto hostOps1 W 9 (Proc.devRef .tc main_v4) = fwd (W (Proc.devRef .tc main_arg0)) := by
  after_reads_simp
  rfl
/-- After nine steps, the coordinates shifted backward are still there. -/
theorem u9_v6 : StableHlo.upto hostOps1 W 9 (Proc.devRef .tc main_v6) = bwd (W (Proc.devRef .tc main_arg0)) := by
  after_reads_simp
  rfl
/-- After nine steps, the coordinates are untouched. -/
theorem u9_x : StableHlo.upto hostOps1 W 9 (Proc.devRef .tc main_arg0) = W (Proc.devRef .tc main_arg0) := by
  after_reads_simp
/-- After nine steps, the harmonics are untouched. -/
theorem u9_s : StableHlo.upto hostOps1 W 9 (Proc.devRef .tc main_v1_2) = W (Proc.devRef .tc main_v1_2) := by
  after_reads_simp
/-- After nine steps, the zero columns are ready. -/
theorem u9_z : StableHlo.upto hostOps1 W 9 (Proc.devRef .tc main_v8) = zcols := by
  after_reads_simp
  rfl

/-- The second call's left operands. -/
theorem read_ga : StableHlo.after hostOps1 W (Proc.devRef .tc main_v7) = gaOf (W (Proc.devRef .tc main_arg0)) := by
  after_reads_simp
  unfold gaOf
  rw [← u6_v4 W, ← u6_v6 W, ← u6_x W]
  rfl

/-- The leading part of the rows it gathers from. -/
theorem read_hi : StableHlo.after hostOps1 W (Proc.devRef .tc main_v10)
    = gbOf (W (Proc.devRef .tc main_arg0)) (W (Proc.devRef .tc main_v1_2)) := by
  after_reads_simp
  unfold gbOf
  rw [← u9_v4 W, ← u9_v6 W, ← u9_x W, ← u9_s W, ← u9_z W]
  rfl

/-- The remainder of the rows it gathers from. -/
theorem read_lo : StableHlo.after hostOps1 W (Proc.devRef .tc main_v13)
    = subf (gbOf (W (Proc.devRef .tc main_arg0)) (W (Proc.devRef .tc main_v1_2))) (gbOf (W (Proc.devRef .tc main_arg0)) (W (Proc.devRef .tc main_v1_2))) := by
  after_reads_simp
  unfold gbOf
  rw [← u9_v4 W, ← u9_v6 W, ← u9_x W, ← u9_s W, ← u9_z W]
  rfl

/-- The positional weights, transposed. -/
theorem read_wp : StableHlo.after hostOps1 W (Proc.devRef .tc main_v14)
    = transpose S66x16 [1, 0] (W (Proc.devRef .tc main_arg4)) transposes_S16x66_S66x16_1_0 := by
  after_reads_simp
/-- The embedding's weights, transposed. -/
theorem read_we : StableHlo.after hostOps1 W (Proc.devRef .tc main_v15)
    = transpose S163x128 [1, 0] (W (Proc.devRef .tc main_arg6)) transposes_S128x163_S163x128_1_0 := by
  after_reads_simp
/-- The positional bias as one row. -/
theorem read_bp : StableHlo.after hostOps1 W (Proc.devRef .tc main_v16)
    = broadcastInDim S1x16 ![1] bcast_S16_S1x16_1 (W (Proc.devRef .tc main_arg5)) := by
  after_reads_simp
/-- The norm's scale as one row. -/
theorem read_lg : StableHlo.after hostOps1 W (Proc.devRef .tc main_v17)
    = broadcastInDim S1x128 ![1] bcast_S128_S1x128_1 (W (Proc.devRef .tc main_arg7)) := by
  after_reads_simp
/-- The norm's shift as one row. -/
theorem read_lb : StableHlo.after hostOps1 W (Proc.devRef .tc main_v18)
    = broadcastInDim S1x128 ![1] bcast_S128_S1x128_1 (W (Proc.devRef .tc main_arg8)) := by
  after_reads_simp

end Read

end Cert.Proof.Arrays

end
-- ==== Proof.Select.lean ====
/- The thirty nearest positions of a row of distances, chosen one at a time: the least entry, at its first position, is taken
   and overwritten by +∞; and the proof that this is the prefix of the stable sort by distance. -/
module

public import Idealize.ShloMosaic.Lib.SortPrefix
public import Idealize.ShloMosaic.PureOps.Ideal

@[expose] public section

noncomputable section

namespace Cert.Proof.Select

open Idealize.ShloMosaic

variable {n : ℕ} [NeZero n]

/-- The positions at which a row is least. -/
def leastSet (w : Fin n → EReal) : Finset (Fin n) := Finset.univ.filter fun j => ∀ k, w j ≤ w k

/-- A nonempty row takes its least value somewhere. -/
theorem leastSet_nonempty (w : Fin n → EReal) : (leastSet w).Nonempty := by
  obtain ⟨j, hj⟩ := Finite.exists_min w
  exact ⟨j, Finset.mem_filter.mpr ⟨Finset.mem_univ _, hj⟩⟩

/-- The first position at which a row is least. -/
def first (w : Fin n → EReal) : Fin n := (leastSet w).min' (leastSet_nonempty w)

/-- The first least entry is at most every entry. -/
theorem first_least (w : Fin n → EReal) (k : Fin n) : w (first w) ≤ w k :=
  (Finset.mem_filter.mp ((leastSet w).min'_mem (leastSet_nonempty w))).2 k

/-- A position as low as the first least one comes no earlier. -/
theorem first_le (w : Fin n → EReal) (k : Fin n) (hk : w k ≤ w (first w)) : first w ≤ k :=
  Finset.min'_le _ _ (Finset.mem_filter.mpr ⟨Finset.mem_univ _, fun j => hk.trans (first_least w j)⟩)

/-- The row with its first least entry overwritten. -/
def cross (w : Fin n → EReal) : Fin n → EReal := fun j => if j = first w then ⊤ else w j

/-- The row before round `k`. -/
def left (d : Fin n → EReal) (k : ℕ) : Fin n → EReal := cross^[k] d

/-- One more pick crosses one more entry out. -/
theorem left_succ (d : Fin n → EReal) (k : ℕ) : left d (k + 1) = cross (left d k) :=
  Function.iterate_succ_apply' cross k d

/-- The position round `k` takes. -/
def nbr (d : Fin n → EReal) (k : ℕ) : Fin n := first (left d k)

/-- A picked entry is infinite afterwards. -/
theorem left_of_taken (d : Fin n → EReal) (k : ℕ) (j : Fin n) (h : ∃ i < k, nbr d i = j) : left d k j = ⊤ := by
  induction k with
  | zero => obtain ⟨i, hi, _⟩ := h; omega
  | succ k ih =>
    rw [left_succ]
    unfold cross
    split
    · rfl
    · rename_i hj
      obtain ⟨i, hi, e⟩ := h
      refine ih ⟨i, ?_, e⟩
      rcases Nat.lt_succ_iff_lt_or_eq.mp hi with h | h
      · exact h
      · subst h; exact absurd e.symm hj

/-- An entry not picked is unchanged. -/
theorem left_of_free (d : Fin n → EReal) (k : ℕ) (j : Fin n) (h : ∀ i < k, nbr d i ≠ j) : left d k j = d j := by
  induction k with
  | zero => rfl
  | succ k ih =>
    rw [left_succ]
    unfold cross
    rw [if_neg fun e => h k (Nat.lt_succ_self k) e.symm]
    exact ih fun i hi => h i (hi.trans (Nat.lt_succ_self k))

/-- While a position is left, some position has not been taken. -/
theorem exists_free (d : Fin n → EReal) (k : ℕ) (hk : k < n) : ∃ j, ∀ i < k, nbr d i ≠ j := by
  by_contra h
  push Not at h
  choose f hf hf' using h
  have hinj : Function.Injective fun j => (⟨f j, hf j⟩ : Fin k) := fun a b e => by
    rw [← hf' a, ← hf' b, Fin.mk.injEq _ _ _ _ |>.mp e]
  have := Fintype.card_le_of_injective _ hinj
  simp at this
  omega

/-- No round takes a position an earlier round took. -/
theorem nbr_ne (d : Fin n → EReal) (hd : ∀ j, d j < ⊤) (k : ℕ) (hk : k < n) (i : ℕ) (hi : i < k) : nbr d i ≠ nbr d k := by
  intro e
  obtain ⟨j, hj⟩ := exists_free d k hk
  have h1 : left d k (nbr d k) = ⊤ := left_of_taken d k _ ⟨i, hi, e⟩
  have h2 := first_least (left d k) j
  rw [left_of_free d k j hj] at h2
  exact absurd (h1 ▸ h2 : (⊤ : EReal) ≤ d j) (not_le.mpr (hd j))

/-- The entry about to be picked is still there. -/
theorem left_nbr (d : Fin n → EReal) (hd : ∀ j, d j < ⊤) (k : ℕ) (hk : k < n) : left d k (nbr d k) = d (nbr d k) :=
  left_of_free d k _ fun i hi => nbr_ne d hd k hk i hi

/-- What round `k` takes is at most every entry not taken before it, and first among the equal ones. -/
theorem nbr_before (d : Fin n → EReal) (hd : ∀ j, d j < ⊤) (k : ℕ) (hk : k < n) (j : Fin n) (hj : ∀ i < k, nbr d i ≠ j) :
    d (nbr d k) ≤ d j ∧ (d j = d (nbr d k) → nbr d k ≤ j) := by
  have h := first_least (left d k) j
  rw [left_of_free d k j hj, show first (left d k) = nbr d k from rfl, left_nbr d hd k hk] at h
  refine ⟨h, fun e => first_le (left d k) j ?_⟩
  rw [left_of_free d k j hj, show first (left d k) = nbr d k from rfl, left_nbr d hd k hk, e]

/-- A stable sort by a key of a list in ascending position is the sort by the key and then the position. -/
theorem stableSort_key {κ : Type} [DecidableEq κ] (lt : κ → κ → Bool) (key : Fin n → κ) (l : List (Fin n)) (hl : l.Pairwise (· < ·)) :
    stableSort (fun a b => lt (key a) (key b)) l
      = stableSort (fun a b => lt (key a) (key b) || (decide (key a = key b) && decide (a < b))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [this]

/-- The stable sort by a key puts at a place what the sort by the key and then the position puts there. -/
theorem sortedFrom_key {κ : Type} [DecidableEq κ] (lt : κ → κ → Bool) (key : Fin n → κ) :
    sortedFrom (fun a b => lt (key a) (key b))
      = sortedFrom (fun a b : Fin n => lt (key a) (key b) || (decide (key a = key b) && decide (a < b))) := by
  have e : sortPositions n (fun a b => lt (key a) (key b))
      = sortPositions n (fun a b : Fin n => lt (key a) (key b) || (decide (key a = key b) && decide (a < b))) :=
    stableSort_key lt key _ (List.pairwise_lt_finRange n)
  funext k
  unfold sortedFrom
  rw [List.get_of_eq e]
  rfl

/-- The stable ascending sort of a row of finite entries starts with what the rounds take. -/
theorem sortedFrom_eq_nbr (d : Fin n → EReal) (hd : ∀ j, d j < ⊤) (k : ℕ) (hk : k < n) :
    sortedFrom (fun a b => decide (d a < d b)) ⟨k, hk⟩ = nbr d k := by
  have hB := StrictTotalBefore.of_key_then_position (fun a b : EReal => decide (a < b)) d (fun a => by simp)
    (fun a b c h1 h2 => by simp only [decide_eq_true_eq] at *; exact h1.trans h2)
    (fun a b => by
      rcases lt_trichotomy a b with h | h | h
      · exact Or.inl (by simpa using h)
      · exact Or.inr (Or.inl h)
      · exact Or.inr (Or.inr (by simpa using h)))
  have hs := sortedFrom_key (fun a b : EReal => decide (a < b)) d
  refine (congrFun hs _).trans ?_
  have aux : ∀ (i : ℕ) (_ : i < n) (p : Fin n), (∀ l < i, nbr d l ≠ p) →
      (decide (d p < d (nbr d i)) || (decide (d p = d (nbr d i)) && decide (p < nbr d i))) = false := by
    intro i hi p hp
    obtain ⟨h1, h2⟩ := nbr_before d hd i hi p hp
    rw [Bool.or_eq_false_iff, Bool.and_eq_false_iff, decide_eq_false_iff_not, decide_eq_false_iff_not, decide_eq_false_iff_not]
    refine ⟨not_lt.mpr h1, ?_⟩
    by_cases e : d p = d (nbr d i)
    · exact Or.inr (not_lt.mpr (h2 e))
    · exact Or.inl e
  have := hB.sortedFrom_eq_of_prefix (k := k + 1) hk (fun i => nbr d i.val)
    (fun a b e => by
      by_contra hne
      rcases lt_or_gt_of_ne hne with h | h
      · exact nbr_ne d hd b.val (lt_of_lt_of_le b.isLt hk) a.val h e
      · exact nbr_ne d hd a.val (lt_of_lt_of_le a.isLt hk) b.val h e.symm)
    (fun i j hij => aux i.val (lt_of_lt_of_le i.isLt hk) _ fun l hl e =>
      nbr_ne d hd j.val (lt_of_lt_of_le j.isLt hk) l (lt_trans hl hij) e)
    (fun i p hp => aux i.val (lt_of_lt_of_le i.isLt hk) p fun l hl =>
      hp ⟨l, lt_trans hl i.isLt⟩)
    ⟨k, Nat.lt_succ_self k⟩
  exact this

end Cert.Proof.Select

end
-- ==== Proof.Rounds.lean ====
/- The rounds of the top-k call: each round's least entry, its position and the row left over, one step three names; the
   two stored blocks as those steps over the distances; and every step read row by row as a round of the selection. -/
module

public import proofs.«01_k».proof.Proof.Gen.KernelIdeal.Frame
public import proofs.«01_k».proof.Proof.Select
public import Idealize.ShloMosaic.Lib.Pipeline.ValueKit
public import Idealize.ShloMosaic.Lib.Pointwise
public import Idealize.ShloMosaic.Lib.ValueLayoutCasts
public import Idealize.ShloMosaic.Lib.SortNet.Extract

@[expose] public section

noncomputable section

namespace Cert.Proof.Rounds

open Idealize.ShloMosaic Cert.KernelIdeal Cert.KernelIdeal.Gen

/-- The column number of every entry of a 512 by 512 array. -/
def lane : IVec S512x512 32 := iota .tc S512x512 32 [1] iota_S512x512_d1_w32

/-- Every row's least entry. -/
def rowMin (w : FVec Ideal S512x512 .f32) : FVec Ideal S512x1 .f32 :=
  shapeCast S512x1 (multiReduction .minimumf [1] S512 w 0x7F800000#32 reduces_S512x512_S512 (.inl rfl) rfl) shapeCasts_S512_S512x1

/-- The same, repeated along the row. -/
def spreadMin (w : FVec Ideal S512x512 .f32) : FVec Ideal S512x512 .f32 :=
  broadcastTo S512x512 (rowMin w) broadcasts_S512x1_S512x512

/-- The column number where the row is least, 512 elsewhere. -/
def chosen (w : FVec Ideal S512x512 .f32) : IVec S512x512 32 :=
  select (cmpf .oeq w (spreadMin w)) lane (broadcast S512x512 512#32)

/-- The first position of every row's least entry. -/
def rowArg (w : FVec Ideal S512x512 .f32) : IVec S512x1 32 :=
  shapeCast S512x1 (multiReductionI .minsi [1] S512 (chosen w) 2147483647#32 reduces_S512x512_S512 rfl) shapeCasts_S512_S512x1

/-- The same, repeated along the row. -/
def spreadArg (w : FVec Ideal S512x512 .f32) : IVec S512x512 32 := broadcastTo S512x512 (rowArg w) broadcasts_S512x1_S512x512

/-- The rows with that entry overwritten by infinity. -/
def next (w : FVec Ideal S512x512 .f32) : FVec Ideal S512x512 .f32 :=
  select (cmpi .eq lane (spreadArg w)) (broadcast S512x512 (Scalar.ofBits .f32 0x7F800000#32)) w

/-- The rows before round `k`. -/
def work (d : FVec Ideal S512x512 .f32) : ℕ → FVec Ideal S512x512 .f32
  | 0 => d
  | k + 1 => next (work d k)

section Named

/-! The call's values from the second round on, each at its round. -/

variable (d : FVec Ideal S512x512 .f32)

/-- The rows before round 2. -/
theorem work2 :
    k0_pay10 lane (work d 1) (chosen (work d 1)) = work d 2 :=
  rfl
/-- The rows before round 3. -/
theorem work3 :
    k0_pay13 lane (work d 1) (chosen (work d 1)) = work d 3 :=
  congrArg next (work2 d)
/-- The rows before round 4. -/
theorem work4 :
    k0_pay16 lane (work d 1) (chosen (work d 1)) = work d 4 :=
  congrArg next (work3 d)
/-- The rows before round 5. -/
theorem work5 :
    k0_pay19 lane (work d 1) (chosen (work d 1)) = work d 5 :=
  congrArg next (work4 d)
/-- The rows before round 6. -/
theorem work6 :
    k0_pay23 lane (work d 5) (spreadMin (work d 5)) = work d 6 :=
  rfl
/-- The rows before round 7. -/
theorem work7 :
    k0_pay26 lane (work d 5) (spreadMin (work d 5)) = work d 7 :=
  congrArg next (work6 d)
/-- The rows before round 8. -/
theorem work8 :
    k0_pay29 lane (work d 5) (spreadMin (work d 5)) = work d 8 :=
  congrArg next (work7 d)
/-- The rows before round 9. -/
theorem work9 :
    k0_pay32 lane (work d 5) (spreadMin (work d 5)) = work d 9 :=
  congrArg next (work8 d)
/-- The rows before round 10. -/
theorem work10 :
    k0_pay35 lane (work d 9) = work d 10 :=
  rfl
/-- The rows before round 11. -/
theorem work11 :
    k0_pay38 lane (work d 9) = work d 11 :=
  congrArg next (work10 d)
/-- The rows before round 12. -/
theorem work12 :
    k0_pay41 lane (work d 9) = work d 12 :=
  congrArg next (work11 d)
/-- The rows before round 13. -/
theorem work13 :
    k0_pay45 lane (work d 12) (spreadArg (work d 12)) = work d 13 :=
  rfl
/-- The rows before round 14. -/
theorem work14 :
    k0_pay48 lane (work d 12) (spreadArg (work d 12)) = work d 14 :=
  congrArg next (work13 d)
/-- The rows before round 15. -/
theorem work15 :
    k0_pay51 lane (work d 12) (spreadArg (work d 12)) = work d 15 :=
  congrArg next (work14 d)
/-- The rows before round 16. -/
theorem work16 :
    k0_pay54 lane (work d 12) (spreadArg (work d 12)) = work d 16 :=
  congrArg next (work15 d)
/-- The rows before round 17. -/
theorem work17 :
    k0_pay58 lane (work d 16) (chosen (work d 16)) = work d 17 :=
  rfl
/-- The rows before round 18. -/
theorem work18 :
    k0_pay61 lane (work d 16) (chosen (work d 16)) = work d 18 :=
  congrArg next (work17 d)
/-- The rows before round 19. -/
theorem work19 :
    k0_pay64 lane (work d 16) (chosen (work d 16)) = work d 19 :=
  congrArg next (work18 d)
/-- The rows before round 20. -/
theorem work20 :
    k0_pay67 lane (work d 16) (chosen (work d 16)) = work d 20 :=
  congrArg next (work19 d)
/-- The rows before round 21. -/
theorem work21 :
    k0_pay71 lane (work d 20) (spreadMin (work d 20)) = work d 21 :=
  rfl
/-- The rows before round 22. -/
theorem work22 :
    k0_pay74 lane (work d 20) (spreadMin (work d 20)) = work d 22 :=
  congrArg next (work21 d)
/-- The rows before round 23. -/
theorem work23 :
    k0_pay77 lane (work d 20) (spreadMin (work d 20)) = work d 23 :=
  congrArg next (work22 d)
/-- The rows before round 24. -/
theorem work24 :
    k0_pay80 lane (work d 20) (spreadMin (work d 20)) = work d 24 :=
  congrArg next (work23 d)
/-- The rows before round 25. -/
theorem work25 :
    k0_pay83 lane (work d 24) = work d 25 :=
  rfl
/-- The rows before round 26. -/
theorem work26 :
    k0_pay86 lane (work d 24) = work d 26 :=
  congrArg next (work25 d)
/-- The rows before round 27. -/
theorem work27 :
    k0_pay89 lane (work d 24) = work d 27 :=
  congrArg next (work26 d)
/-- The rows before round 28. -/
theorem work28 :
    k0_pay93 lane (work d 27) (spreadArg (work d 27)) = work d 28 :=
  rfl
/-- The rows before round 29. -/
theorem work29 :
    k0_pay96 lane (work d 27) (spreadArg (work d 27)) = work d 29 :=
  congrArg next (work28 d)
/-- The least entries of round 2. -/
theorem min2 :
    k0_pay11 lane (work d 1) (chosen (work d 1)) = rowMin (work d 2) :=
  congrArg rowMin (work2 d)
/-- The least entries of round 3. -/
theorem min3 :
    k0_pay14 lane (work d 1) (chosen (work d 1)) = rowMin (work d 3) :=
  congrArg rowMin (work3 d)
/-- The least entries of round 4. -/
theorem min4 :
    k0_pay17 lane (work d 1) (chosen (work d 1)) = rowMin (work d 4) :=
  congrArg rowMin (work4 d)
/-- The least entries of round 5. -/
theorem min5 :
    k0_pay20 lane (work d 1) (chosen (work d 1)) = rowMin (work d 5) :=
  congrArg rowMin (work5 d)
/-- The least entries of round 6. -/
theorem min6 :
    k0_pay24 lane (work d 5) (spreadMin (work d 5)) = rowMin (work d 6) :=
  congrArg rowMin (work6 d)
/-- The least entries of round 7. -/
theorem min7 :
    k0_pay27 lane (work d 5) (spreadMin (work d 5)) = rowMin (work d 7) :=
  congrArg rowMin (work7 d)
/-- The least entries of round 8. -/
theorem min8 :
    k0_pay30 lane (work d 5) (spreadMin (work d 5)) = rowMin (work d 8) :=
  congrArg rowMin (work8 d)
/-- The least entries of round 9. -/
theorem min9 :
    k0_pay33 (work d 9) = rowMin (work d 9) :=
  rfl
/-- The least entries of round 10. -/
theorem min10 :
    k0_pay36 lane (work d 9) = rowMin (work d 10) :=
  congrArg rowMin (work10 d)
/-- The least entries of round 11. -/
theorem min11 :
    k0_pay39 lane (work d 9) = rowMin (work d 11) :=
  congrArg rowMin (work11 d)
/-- The least entries of round 12. -/
theorem min12 :
    k0_pay42 lane (work d 9) = rowMin (work d 12) :=
  congrArg rowMin (work12 d)
/-- The least entries of round 13. -/
theorem min13 :
    k0_pay46 lane (work d 12) (spreadArg (work d 12)) = rowMin (work d 13) :=
  congrArg rowMin (work13 d)
/-- The least entries of round 14. -/
theorem min14 :
    k0_pay49 lane (work d 12) (spreadArg (work d 12)) = rowMin (work d 14) :=
  congrArg rowMin (work14 d)
/-- The least entries of round 15. -/
theorem min15 :
    k0_pay52 lane (work d 12) (spreadArg (work d 12)) = rowMin (work d 15) :=
  congrArg rowMin (work15 d)
/-- The least entries of round 16. -/
theorem min16 :
    k0_pay55 lane (work d 12) (spreadArg (work d 12)) = rowMin (work d 16) :=
  congrArg rowMin (work16 d)
/-- The least entries of round 17. -/
theorem min17 :
    k0_pay59 lane (work d 16) (chosen (work d 16)) = rowMin (work d 17) :=
  congrArg rowMin (work17 d)
/-- The least entries of round 18. -/
theorem min18 :
    k0_pay62 lane (work d 16) (chosen (work d 16)) = rowMin (work d 18) :=
  congrArg rowMin (work18 d)
/-- The least entries of round 19. -/
theorem min19 :
    k0_pay65 lane (work d 16) (chosen (work d 16)) = rowMin (work d 19) :=
  congrArg rowMin (work19 d)
/-- The least entries of round 20. -/
theorem min20 :
    k0_pay68 lane (work d 16) (chosen (work d 16)) = rowMin (work d 20) :=
  congrArg rowMin (work20 d)
/-- The least entries of round 21. -/
theorem min21 :
    k0_pay72 lane (work d 20) (spreadMin (work d 20)) = rowMin (work d 21) :=
  congrArg rowMin (work21 d)
/-- The least entries of round 22. -/
theorem min22 :
    k0_pay75 lane (work d 20) (spreadMin (work d 20)) = rowMin (work d 22) :=
  congrArg rowMin (work22 d)
/-- The least entries of round 23. -/
theorem min23 :
    k0_pay78 lane (work d 20) (spreadMin (work d 20)) = rowMin (work d 23) :=
  congrArg rowMin (work23 d)
/-- The least entries of round 24. -/
theorem min24 :
    k0_pay81 (work d 24) = rowMin (work d 24) :=
  rfl
/-- The least entries of round 25. -/
theorem min25 :
    k0_pay84 lane (work d 24) = rowMin (work d 25) :=
  congrArg rowMin (work25 d)
/-- The least entries of round 26. -/
theorem min26 :
    k0_pay87 lane (work d 24) = rowMin (work d 26) :=
  congrArg rowMin (work26 d)
/-- The least entries of round 27. -/
theorem min27 :
    k0_pay90 lane (work d 24) = rowMin (work d 27) :=
  congrArg rowMin (work27 d)
/-- The least entries of round 28. -/
theorem min28 :
    k0_pay94 lane (work d 27) (spreadArg (work d 27)) = rowMin (work d 28) :=
  congrArg rowMin (work28 d)
/-- The least entries of round 29. -/
theorem min29 :
    k0_pay97 lane (work d 27) (spreadArg (work d 27)) = rowMin (work d 29) :=
  congrArg rowMin (work29 d)
/-- The picked positions of round 1. -/
theorem arg1 :
    k0_pay9 (chosen (work d 1)) = rowArg (work d 1) :=
  rfl
/-- The picked positions of round 2. -/
theorem arg2 :
    k0_pay12 lane (work d 1) (chosen (work d 1)) = rowArg (work d 2) :=
  congrArg rowArg (work2 d)
/-- The picked positions of round 3. -/
theorem arg3 :
    k0_pay15 lane (work d 1) (chosen (work d 1)) = rowArg (work d 3) :=
  congrArg rowArg (work3 d)
/-- The picked positions of round 4. -/
theorem arg4 :
    k0_pay18 lane (work d 1) (chosen (work d 1)) = rowArg (work d 4) :=
  congrArg rowArg (work4 d)
/-- The picked positions of round 5. -/
theorem arg5 :
    k0_pay22 lane (work d 5) (spreadMin (work d 5)) = rowArg (work d 5) :=
  rfl
/-- The picked positions of round 6. -/
theorem arg6 :
    k0_pay25 lane (work d 5) (spreadMin (work d 5)) = rowArg (work d 6) :=
  congrArg rowArg (work6 d)
/-- The picked positions of round 7. -/
theorem arg7 :
    k0_pay28 lane (work d 5) (spreadMin (work d 5)) = rowArg (work d 7) :=
  congrArg rowArg (work7 d)
/-- The picked positions of round 8. -/
theorem arg8 :
    k0_pay31 lane (work d 5) (spreadMin (work d 5)) = rowArg (work d 8) :=
  congrArg rowArg (work8 d)
/-- The picked positions of round 9. -/
theorem arg9 :
    k0_pay34 lane (work d 9) = rowArg (work d 9) :=
  rfl
/-- The picked positions of round 10. -/
theorem arg10 :
    k0_pay37 lane (work d 9) = rowArg (work d 10) :=
  congrArg rowArg (work10 d)
/-- The picked positions of round 11. -/
theorem arg11 :
    k0_pay40 lane (work d 9) = rowArg (work d 11) :=
  congrArg rowArg (work11 d)
/-- The picked positions of round 12. -/
theorem arg12 :
    k0_pay43 lane (work d 9) = rowArg (work d 12) :=
  congrArg rowArg (work12 d)
/-- The picked positions of round 13. -/
theorem arg13 :
    k0_pay47 lane (work d 12) (spreadArg (work d 12)) = rowArg (work d 13) :=
  congrArg rowArg (work13 d)
/-- The picked positions of round 14. -/
theorem arg14 :
    k0_pay50 lane (work d 12) (spreadArg (work d 12)) = rowArg (work d 14) :=
  congrArg rowArg (work14 d)
/-- The picked positions of round 15. -/
theorem arg15 :
    k0_pay53 lane (work d 12) (spreadArg (work d 12)) = rowArg (work d 15) :=
  congrArg rowArg (work15 d)
/-- The picked positions of round 16. -/
theorem arg16 :
    k0_pay57 (chosen (work d 16)) = rowArg (work d 16) :=
  rfl
/-- The picked positions of round 17. -/
theorem arg17 :
    k0_pay60 lane (work d 16) (chosen (work d 16)) = rowArg (work d 17) :=
  congrArg rowArg (work17 d)
/-- The picked positions of round 18. -/
theorem arg18 :
    k0_pay63 lane (work d 16) (chosen (work d 16)) = rowArg (work d 18) :=
  congrArg rowArg (work18 d)
/-- The picked positions of round 19. -/
theorem arg19 :
    k0_pay66 lane (work d 16) (chosen (work d 16)) = rowArg (work d 19) :=
  congrArg rowArg (work19 d)
/-- The picked positions of round 20. -/
theorem arg20 :
    k0_pay70 lane (work d 20) (spreadMin (work d 20)) = rowArg (work d 20) :=
  rfl
/-- The picked positions of round 21. -/
theorem arg21 :
    k0_pay73 lane (work d 20) (spreadMin (work d 20)) = rowArg (work d 21) :=
  congrArg rowArg (work21 d)
/-- The picked positions of round 22. -/
theorem arg22 :
    k0_pay76 lane (work d 20) (spreadMin (work d 20)) = rowArg (work d 22) :=
  congrArg rowArg (work22 d)
/-- The picked positions of round 23. -/
theorem arg23 :
    k0_pay79 lane (work d 20) (spreadMin (work d 20)) = rowArg (work d 23) :=
  congrArg rowArg (work23 d)
/-- The picked positions of round 24. -/
theorem arg24 :
    k0_pay82 lane (work d 24) = rowArg (work d 24) :=
  rfl
/-- The picked positions of round 25. -/
theorem arg25 :
    k0_pay85 lane (work d 24) = rowArg (work d 25) :=
  congrArg rowArg (work25 d)
/-- The picked positions of round 26. -/
theorem arg26 :
    k0_pay88 lane (work d 24) = rowArg (work d 26) :=
  congrArg rowArg (work26 d)
/-- The picked positions of round 27. -/
theorem arg27 :
    k0_pay91 lane (work d 24) = rowArg (work d 27) :=
  congrArg rowArg (work27 d)
/-- The picked positions of round 28. -/
theorem arg28 :
    k0_pay95 lane (work d 27) (spreadArg (work d 27)) = rowArg (work d 28) :=
  congrArg rowArg (work28 d)

end Named

section Stored

/-! What the call stores, over the two blocks it reads. -/

variable (x0 : Vec Ideal S1x512x3 .f32) (x1 : Vec Ideal S1x3x512 .f32)

/-- The distances of the block. -/
def dist : FVec Ideal S512x512 .f32 := k0_pay3 (View.ld x0 r0_0) (View.ld x1 r0_1)

/-- The rows before round 1. -/
theorem work1 :
    k0_pay6 (View.ld x0 r0_0) (View.ld x1 r0_1) = work (dist x0 x1) 1 :=
  rfl
/-- The least entries of round 0. -/
theorem min0 :
    k0_pay4 (View.ld x0 r0_0) (View.ld x1 r0_1) = rowMin (work (dist x0 x1) 0) :=
  rfl
/-- The least entries of round 1. -/
theorem min1 :
    k0_pay7 (View.ld x0 r0_0) (View.ld x1 r0_1) = rowMin (work (dist x0 x1) 1) :=
  congrArg rowMin (work1 x0 x1)
/-- The picked positions of round 0. -/
theorem arg0 :
    k0_pay5 (View.ld x0 r0_0) (View.ld x1 r0_1) = rowArg (work (dist x0 x1) 0) :=
  rfl
/-- The call's column numbers. -/
theorem at115 : k0_pay115 x0 x1 = lane := rfl
/-- The rows before round 1, as the call passes them on. -/
theorem at117 : k0_pay117 x0 x1 = work (dist x0 x1) 1 := by
  unfold k0_pay117; exact work1 x0 x1
/-- The column numbers where the rows of round 1 are least. -/
theorem at118 : k0_pay118 x0 x1 = chosen (work (dist x0 x1) 1) := by
  unfold k0_pay118; exact congrArg chosen (work1 x0 x1)
/-- The rows before round 5, as the call passes them on. -/
theorem at119 : k0_pay119 x0 x1 = work (dist x0 x1) 5 := by
  unfold k0_pay119; rw [at115, at117, at118]; exact work5 _
/-- The least entries of round 5, repeated. -/
theorem at120 : k0_pay120 x0 x1 = spreadMin (work (dist x0 x1) 5) := by
  unfold k0_pay120; rw [at115, at117, at118]; exact congrArg (fun u => broadcastTo S512x512 u broadcasts_S512x1_S512x512) (min5 _)
/-- The rows before round 9, as the call passes them on. -/
theorem at121 : k0_pay121 x0 x1 = work (dist x0 x1) 9 := by
  unfold k0_pay121; rw [at115, at119, at120]; exact work9 _
/-- The rows before round 12, as the call passes them on. -/
theorem at122 : k0_pay122 x0 x1 = work (dist x0 x1) 12 := by
  unfold k0_pay122; rw [at115, at121]; exact work12 _
/-- The picked positions of round 12, repeated. -/
theorem at123 : k0_pay123 x0 x1 = spreadArg (work (dist x0 x1) 12) := by
  unfold k0_pay123; rw [at115, at121]; exact congrArg (fun u => broadcastTo S512x512 u broadcasts_S512x1_S512x512) (arg12 _)
/-- The rows before round 16, as the call passes them on. -/
theorem at124 : k0_pay124 x0 x1 = work (dist x0 x1) 16 := by
  unfold k0_pay124; rw [at115, at122, at123]; exact work16 _
/-- The column numbers where the rows of round 16 are least. -/
theorem at125 : k0_pay125 x0 x1 = chosen (work (dist x0 x1) 16) := by
  unfold k0_pay125; rw [at115, at122, at123]; exact congrArg chosen (work16 _)
/-- The rows before round 20, as the call passes them on. -/
theorem at126 : k0_pay126 x0 x1 = work (dist x0 x1) 20 := by
  unfold k0_pay126; rw [at115, at124, at125]; exact work20 _
/-- The least entries of round 20, repeated. -/
theorem at127 : k0_pay127 x0 x1 = spreadMin (work (dist x0 x1) 20) := by
  unfold k0_pay127; rw [at115, at124, at125]; exact congrArg (fun u => broadcastTo S512x512 u broadcasts_S512x1_S512x512) (min20 _)
/-- The rows before round 24, as the call passes them on. -/
theorem at128 : k0_pay128 x0 x1 = work (dist x0 x1) 24 := by
  unfold k0_pay128; rw [at115, at126, at127]; exact work24 _
/-- The rows before round 27, as the call passes them on. -/
theorem at129 : k0_pay129 x0 x1 = work (dist x0 x1) 27 := by
  unfold k0_pay129; rw [at115, at128]; exact work27 _
/-- The picked positions of round 27, repeated. -/
theorem at130 : k0_pay130 x0 x1 = spreadArg (work (dist x0 x1) 27) := by
  unfold k0_pay130; rw [at115, at128]; exact congrArg (fun u => broadcastTo S512x512 u broadcasts_S512x1_S512x512) (arg27 _)

/-- Thirty columns fill the array's width. -/
theorem columns_fit {α : Type} (f : Fin 30 → S512x1.Idx → α) :
    Shape.Concatenates ((List.ofFn fun k => (⟨S512x1, f k⟩ : (s : Shape) × (s.Idx → α))).map (·.1)) S512x30 1 :=
  concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x30_d1

/-- Thirty columns side by side. -/
def columns {α : Type} (f : Fin 30 → S512x1.Idx → α) : S1x512x30.Idx → α :=
  shapeCast S1x512x30 (concatenate S512x30 1 (List.ofFn fun k => (⟨S512x1, f k⟩ : (s : Shape) × (s.Idx → α))) (columns_fit f))
    shapeCasts_S512x30_S1x512x30

/-- The stored distances: the rounds' least entries. -/
theorem out0_2_eq : out0_2 x0 x1 = columns fun k => rowMin (work (dist x0 x1) k) := by
  unfold out0_2
  rw [View.canon_cons_unit_lit _ _ _ (by decide), at115, at117, at118, at119, at120, at121, at122, at123, at124, at125, at126, at127, at128, at129, at130]
  unfold k0_pay98
  rw [min0, min1, min2, min3, min4, min5, min6, min7, min8, min9, min10, min11, min12, min13, min14, min15, min16, min17, min18, min19, min20, min21, min22, min23, min24, min25, min26, min28, min29, show k0_pay90 lane (work (dist x0 x1) 24) = _ from min27 _]
  rfl

/-- The stored neighbours: the rounds' positions. -/
theorem out0_3_eq : out0_3 x0 x1 = columns fun k => rowArg (work (dist x0 x1) k) := by
  unfold out0_3
  rw [View.canon_cons_unit_lit _ _ _ (by decide), at115, at117, at118, at119, at120, at121, at122, at123, at124, at125, at126, at127, at128, at129, at130]
  unfold k0_pay99
  rw [arg0, arg1, arg2, arg3, arg4, arg5, arg6, arg7, arg8, arg9, arg10, arg11, arg12, arg13, arg14, arg15, arg16, arg17, arg18, arg19, arg20, arg21, arg22, arg23, arg24, arg25, arg26, arg27, arg28, min29, work29]
  rfl

end Stored

end Cert.Proof.Rounds

end
-- ==== Proof.RoundsRead.lean ====
/- The rounds read row by row: a round's least entry, its first position and the row left over are those of the selection. -/
module

public import proofs.«01_k».proof.Proof.Rounds
public import Idealize.ShloMosaic.Lib.ValueLayout

@[expose] public section

set_option maxRecDepth 16384

noncomputable section

namespace Cert.Proof.Rounds

open Idealize.ShloMosaic Cert.KernelIdeal Cert.KernelIdeal.Gen Cert.Proof.Select

/-- A row of an array. -/
def row (w : FVec Ideal S512x512 .f32) (i : Fin 512) : Fin 512 → EReal := fun j => w (ix2 i j)

/-- Thirty columns side by side, entry by entry. -/
theorem columns_apply {α : Type} (f : Fin 30 → S512x1.Idx → α) (i : Fin 512) (k : Fin 30) :
    columns f (ix3 0 i k) = f k (ix2 i 0) := by
  unfold columns
  refine (ValueIdx.shapeCast_ab_1ab_apply (u := 0) (i := i) (j := k) ..).trans ?_
  refine concatenate_ofFn_unit_apply (t := S512x30) (s₁ := S512x1) 1 f (columns_fit f) rfl rfl (ix2 i k) k rfl (ix2 i 0) ?_
  intro b hb
  fin_cases b
  · rfl
  · exact absurd rfl hb

/-- The fold of the minimum over a row is the row's entry at its first least position. -/
theorem fold_min_row (r : Fin 512 → EReal) : (Finset.univ : Finset (Fin 512)).fold min ⊤ r = r (first r) := by
  refine le_antisymm ?_ ?_
  · exact (Finset.fold_min_le _).mpr (Or.inr ⟨first r, Finset.mem_univ _, le_rfl⟩)
  · exact (Finset.le_fold_min _).mpr ⟨le_top, fun j _ => first_least r j⟩

/-- The literal infinity. -/
theorem top_word : Ideal.ofBits .f32 0x7F800000#32 = ⊤ := by simp [Ideal.ofBits, Ideal.ieee]

/-- Every row's least entry. -/
theorem rowMin_apply (w : FVec Ideal S512x512 .f32) (i : Fin 512) :
    rowMin w (ix2 i 0) = row w i (first (row w i)) := by
  pointwise [rowMin]
  rw [top_word]
  exact fold_min_row (row w i)

/-- The column number where the row is least, entry by entry. -/
theorem chosen_apply (w : FVec Ideal S512x512 .f32) (i j : Fin 512) :
    chosen w (ix2 i j) = if row w i j = row w i (first (row w i)) then BitVec.ofNat 32 j else 512#32 := by
  unfold chosen spreadMin lane
  pointwise [rowMin_apply]
  rfl

/-- A small word read as a number. -/
theorem toInt_small (k : ℕ) (h : k < 1024) : (BitVec.ofNat 32 k).toInt = k := by
  rw [BitVec.toInt_eq_toNat_of_lt] <;> simp only [BitVec.toNat_ofNat] <;> omega

/-- The fold of the minimum over the chosen numbers is the first least position. -/
theorem fold_first (r : Fin 512 → EReal) :
    (Finset.univ : Finset (Fin 512)).fold IntOp.minsi (2147483647#32)
        (fun x => if r x = r (first r) then BitVec.ofNat 32 ↑x else 512#32) = BitVec.ofNat 32 ↑(first r) := by
  apply BitVec.eq_of_toInt_eq
  rw [← Finset.fold_hom (op' := (min : ℤ → ℤ → ℤ)) (m := BitVec.toInt) (fun x y => SortNet.toInt_minsi x y)]
  have hf := (first r).isLt
  rw [toInt_small (first r).val (by omega)]
  refine le_antisymm ?_ ?_
  · refine (Finset.fold_min_le _).mpr (Or.inr ⟨first r, Finset.mem_univ _, ?_⟩)
    rw [if_pos rfl, toInt_small (first r).val (by omega)]
  · refine (Finset.le_fold_min _).mpr ⟨?_, fun j _ => ?_⟩
    · have : (2147483647#32).toInt = 2147483647 := rfl
      rw [this]; omega
    · split
      · rename_i h
        have hj := j.isLt
        rw [toInt_small j.val (by omega)]
        exact_mod_cast first_le r j h.le
      · have : (512#32).toInt = 512 := rfl
        rw [this]; omega

/-- Every row's first least position. -/
theorem rowArg_apply (w : FVec Ideal S512x512 .f32) (i : Fin 512) :
    rowArg w (ix2 i 0) = BitVec.ofNat 32 (first (row w i)) := by
  unfold rowArg
  pointwise [chosen_apply]
  exact fold_first (row w i)

/-- Small numbers are equal as words exactly when they are equal. -/
theorem word_eq_iff (a b : ℕ) (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

/-- A selection by equal words is a selection by equal numbers. -/
theorem select_word_eq {α : Type} (a b : ℕ) (ha : a < 1024) (hb : b < 1024) (x y : α) :
    Scalar.select (IntOp.cmpi CmpIPredicate.eq (BitVec.ofNat 32 a) (BitVec.ofNat 32 b)) x y = if a = b then x else y := by
  by_cases h : a = b
  · subst h; simp [IntOp.cmpi, Scalar.select]
  · have := (word_eq_iff a b ha hb).not.mpr h
    have e : (BitVec.ofNat 32 a == BitVec.ofNat 32 b) = false := by simpa using this
    simp [IntOp.cmpi, Scalar.select, h, e]

/-- One round crosses out the row's first least entry. -/
theorem next_row (w : FVec Ideal S512x512 .f32) (i : Fin 512) : row (next w) i = cross (row w i) := by
  funext j
  unfold next row spreadArg lane
  pointwise [rowArg_apply]
  rw [top_word, select_word_eq _ _ (by omega) (by omega)]
  unfold cross
  simp only [Fin.ext_iff]
  rfl

/-- The rows before a round are the distances with the earlier picks crossed out. -/
theorem work_row (d : FVec Ideal S512x512 .f32) (k : ℕ) (i : Fin 512) : row (work d k) i = left (row d i) k := by
  induction k with
  | zero => rfl
  | succ k ih => rw [left_succ, ← ih]; exact next_row _ i

/-- The small number under the root. -/
def eps6 : EReal := Ideal.ofBits .f32 897988541#32

/-- The distance of two points, the small number under the root. -/
def len (x y : Fin 3 → EReal) : EReal :=
  Ideal.sqrt ((x 0 - y 0) * (x 0 - y 0) + (x 1 - y 1) * (x 1 - y 1) + (x 2 - y 2) * (x 2 - y 2) + eps6)

/-- The first call's distances, entry by entry. -/
theorem dist_apply (x0 : Vec Ideal S1x512x3 .f32) (x1 : Vec Ideal S1x3x512 .f32) (i j : Fin 512) :
    dist x0 x1 (ix2 i j) = len (fun c => x0 (ix3 0 i c)) (fun c => x1 (ix3 0 c j)) := by
  pointwise [dist, k0_pay3, k0_pay2]
  rfl

/-- The stored distances at an entry. -/
theorem out0_2_apply (x0 : Vec Ideal S1x512x3 .f32) (x1 : Vec Ideal S1x3x512 .f32) (i : Fin 512) (k : Fin 30) :
    out0_2 x0 x1 (ix3 0 i k) = left (row (dist x0 x1) i) k (nbr (row (dist x0 x1) i) k) := by
  rw [out0_2_eq, columns_apply, rowMin_apply, work_row]
  rfl

/-- The stored neighbours at an entry. -/
theorem out0_3_apply (x0 : Vec Ideal S1x512x3 .f32) (x1 : Vec Ideal S1x3x512 .f32) (i : Fin 512) (k : Fin 30) :
    out0_3 x0 x1 (ix3 0 i k) = BitVec.ofNat 32 (nbr (row (dist x0 x1) i) k) := by
  rw [out0_3_eq, columns_apply, rowArg_apply, work_row]
  rfl

end Cert.Proof.Rounds

end
-- ==== Proof.EdgeIdx.lean ====
/- The second call's row numbers, one-hot masks and the selections made with them. -/
module

public import proofs.«01_k».proof.Proof.Gen.KernelIdeal.Frame
public import proofs.«01_k».proof.Proof.RoundsRead
public import Idealize.ShloMosaic.Lib.Pointwise

@[expose] public section

set_option maxRecDepth 16384

noncomputable section

namespace Cert.Proof.Edge

open Cert.KernelIdeal Cert.KernelIdeal.Gen
open Idealize.ShloMosaic

/-- The row of the tile an edge starts at. -/
def er (e : Fin 1920) : Fin 64 := ⟨e.val / 30, by omega⟩
/-- The neighbour's place in that row. -/
def ek (e : Fin 1920) : Fin 30 := ⟨e.val % 30, by omega⟩

/-- The printed floor division of signed words. -/
def floorWord (w d : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt d 0#32))
            (Scalar.extui (Scalar.cmpi CmpIPredicate.slt d 0#32))))
        (IntOp.cmpi CmpIPredicate.ne (IntOp.remsi ArithUnit.vector w d) 0#32))
      (IntOp.subi (IntOp.divsi ArithUnit.vector w d) 1#32)
      (IntOp.divsi ArithUnit.vector w d)

/-- The call's floor division of an edge number by 30 is the edge's row in the tile. -/
theorem floorWord_30 : ∀ e : Fin 1920, floorWord (BitVec.ofNat 32 e) 30#32 = BitVec.ofNat 32 (er e).val := by decide +kernel
/-- The call's floor division by 3 of a column number. -/
theorem floorWord_3 : ∀ a : Fin 24, floorWord (BitVec.ofNat 32 a) 3#32 = BitVec.ofNat 32 (a.val / 3) := by decide +kernel
/-- The call's floor division by 16 of a column number. -/
theorem floorWord_16 : ∀ a : Fin 144, floorWord (BitVec.ofNat 32 a) 16#32 = BitVec.ofNat 32 (a.val / 16) := by decide +kernel
/-- An edge number less 30 times its row is its place in the row. -/
theorem rem_word : ∀ e : Fin 1920, IntOp.subi (BitVec.ofNat 32 ↑e) (IntOp.muli (BitVec.ofNat 32 ↑(er e)) 30#32) = BitVec.ofNat 32 (ek e).val := by
  decide +kernel
/-- A column number less 16 times its group is its place in the group. -/
theorem rem_word_16 : ∀ a : Fin 144, IntOp.subi (BitVec.ofNat 32 ↑a) (IntOp.muli 16#32 (BitVec.ofNat 32 (a.val / 16))) = BitVec.ofNat 32 (a.val % 16) := by
  decide +kernel

/-- A comparison of words, as the extended real it is turned into. -/
theorem bit_word (w w' : BitVec 32) :
    (FloatOps.sitofp (F := Ideal) FTy.f32 (BitVec.setWidth 32 (IntOp.cmpi CmpIPredicate.eq w w'))) = if w = w' then (1 : EReal) else 0 := by
  show (((BitVec.setWidth 32 (IntOp.cmpi CmpIPredicate.eq w w')).toInt : ℝ) : EReal) = _
  by_cases h : w = w'
  · subst h
    have : (BitVec.setWidth 32 (IntOp.cmpi CmpIPredicate.eq w w)).toInt = 1 := by
      simp [IntOp.cmpi]
    rw [this]; simp
  · have : (BitVec.setWidth 32 (IntOp.cmpi CmpIPredicate.eq w w')).toInt = 0 := by
      have hb : (w == w') = false := by simpa using h
      simp [IntOp.cmpi, hb]
    rw [this]; simp [h]

/-- Small numbers are equal as words exactly when they are equal. -/
theorem ofNat_eq_iff (a b : ℕ) (ha : a < 4096) (hb : b < 4096) : BitVec.ofNat 32 a = BitVec.ofNat 32 b ↔ a = b := by
  refine ⟨fun h => ?_, fun h => by rw [h]⟩
  have := congrArg BitVec.toNat h
  simp only [BitVec.toNat_ofNat] at this
  omega

/-- A comparison of small numbers, as the extended real it is turned into. -/
theorem bit_nat (a b : ℕ) (ha : a < 4096) (hb : b < 4096) :
    (FloatOps.sitofp (F := Ideal) FTy.f32 (BitVec.setWidth 32 (IntOp.cmpi CmpIPredicate.eq (BitVec.ofNat 32 a) (BitVec.ofNat 32 b))))
      = if a = b then (1 : EReal) else 0 := by
  rw [bit_word]; simp only [ofNat_eq_iff a b ha hb]

/-- A sum against the indicator of one position is the entry there. -/
theorem pick_left {n : ℕ} (a : Fin n) (X : Fin n → EReal) : ∑ j : Fin n, (if (j : ℕ) = a then (1 : EReal) else 0) * X j = X a := by
  simp [← Fin.ext_iff]
/-- The same with the indicator on the right. -/
theorem pick_right {n : ℕ} (a : Fin n) (X : Fin n → EReal) : ∑ j : Fin n, X j * (if (j : ℕ) = a then (1 : EReal) else 0) = X a := by
  simp [← Fin.ext_iff]

/-- The call's row number of an edge. -/
theorem row_word (e : Fin 1920) : k1_pay5 (ix2 e 0) = BitVec.ofNat 32 (er e).val := by
  refine Eq.trans ?_ (floorWord_30 e)
  pointwise [k1_pay5, floorWord]

/-- The row mask is the indicator of the edge's row. -/
theorem rowMask (e : Fin 1920) (j : Fin 64) : k1_pay6 (F := Ideal) (ix2 e j) = if (j : ℕ) = (er e).val then 1 else 0 := by
  pointwise [k1_pay6, row_word]
  exact bit_nat _ _ (by omega) (by have := (er e).isLt; omega)

/-- The second axis' index, as the call counts it. -/
abbrev lane30 : IVec S1920x30 32 := iota .tc S1920x30 32 [1] iota_S1920x30_d1_w32

/-- The place mask is the indicator of the edge's place. -/
theorem colMask (e : Fin 1920) (j : Fin 30) : k1_pay8 (F := Ideal) lane30 k1_pay7 (ix2 e j) = if (j : ℕ) = (ek e).val then 1 else 0 := by
  pointwise [k1_pay8, k1_pay7, row_word]
  rw [rem_word]
  exact bit_nat _ _ (by omega) (by have := (ek e).isLt; omega)

/-- Summing against a segment's indicator adds that segment's three entries. -/
theorem seg_sum (p : Fin 8) (f : Fin 24 → EReal) :
    ∑ x, f x * (if (x : ℕ) / 3 = p then (1 : EReal) else 0)
      = f ⟨3 * p, by omega⟩ + f ⟨3 * p + 1, by omega⟩ + f ⟨3 * p + 2, by omega⟩ := by
  fin_cases p <;> simp [Fin.sum_univ_succ, add_assoc] <;> rfl

/-- A pair distance of the tile: the distance entry the one-hot products select. -/
theorem first_dist (x1 : Vec Ideal S1x64x30 .f32) (e : Fin 1920) :
    k1_pay9 (k1_pay3 (View.ld x1 r1_0)) (k1_pay6 (F := Ideal)) lane30 k1_pay7 (ix2 e 0) = x1 (ix3 0 (er e) (ek e)) := by
  pointwise [k1_pay9, k1_pay3, rowMask, colMask]
  simp only [pick_left, pick_right]

/-- A small number turned into a float and back is itself. -/
theorem fptosi_nat (n : ℕ) (h : n < 1024) : Ideal.fptosi 32 (((BitVec.ofNat 32 n).toInt : ℝ) : EReal) = BitVec.ofNat 32 n := by
  rw [Cert.Proof.Rounds.toInt_small n h]
  rw [Ideal.fptosi, Ideal.toIntClamped_coe]
  have e : (if 0 ≤ (((n : ℤ) : ℝ)) then ⌊(((n : ℤ) : ℝ))⌋ else ⌈(((n : ℤ) : ℝ))⌉) = (n : ℤ) := by simp
  rw [e]
  have e2 : max (-((2 ^ (32 - 1) : ℕ) : ℤ)) (min (((2 ^ (32 - 1) : ℕ) : ℤ) - 1) (n : ℤ)) = n := by
    norm_num
    omega
  rw [e2]
  rfl

/-- The neighbour index the call recovers for an edge is the one in its block. -/
theorem edge_word (x0 : Vec Ideal S1x64x30 .i32) (n : Fin 64 → Fin 30 → Fin 512) (hn : ∀ q k, x0 (ix3 0 q k) = BitVec.ofNat 32 (n q k))
    (e : Fin 1920) :
    k1_pay10 (k1_pay2 (View.ld x0 r1_0)) (k1_pay6 (F := Ideal)) lane30 k1_pay7 (ix2 e 0) = BitVec.ofNat 32 (n (er e) (ek e)) := by
  pointwise [k1_pay10, k1_pay2, rowMask, colMask]
  simp only [pick_left, pick_right, hn]
  have := (n (er e) (ek e)).isLt
  exact fptosi_nat (n (er e) (ek e)).val (by omega)

end Cert.Proof.Edge
end
-- ==== Proof.Spec.lean ====
/- The edge features' formulas over the extended reals, as both programs come to compute them. -/
module

public import Idealize.ShloMosaic.PureOps.Ideal
public import Idealize.ShloMosaic.PureOps.Ideal.Laws

@[expose] public section

noncomputable section

namespace Cert.Proof.Spec

open Idealize.ShloMosaic

/-- The mean of a row of 128 entries. -/
def mean (x : Fin 128 → EReal) : EReal := Ideal.div (∑ f, x f) (Ideal.ofBits .f32 1124073472#32)

/-- Layer normalisation of a row. -/
def layerNorm (x g b : Fin 128 → EReal) (f : Fin 128) : EReal :=
  Ideal.div (x f - mean x)
    (Ideal.sqrt (mean (fun l => (x l - mean x) * (x l - mean x)) + Ideal.ofBits .f32 925353388#32)) * g f + b f

/-- The three groups of an edge's features side by side. -/
def cat (pos : Fin 16 → EReal) (rb : Fin 144 → EReal) (sh : Fin 3 → EReal) (c : Fin 163) : EReal :=
  if h : (c : ℕ) < 16 then pos ⟨c, h⟩ else
    if h' : (c : ℕ) - 16 < 144 then rb ⟨c - 16, h'⟩ else sh ⟨c - 16 - 144, by omega⟩

/-- The embedding of an edge's features. -/
def embed (u : Fin 163 → EReal) (w : Fin 163 → Fin 128 → EReal) (f : Fin 128) : EReal := ∑ c, u c * w c f

/-- The row of the position table a word selects, with its bias. -/
def position (w : BitVec 32) (W : Fin 66 → Fin 16 → EReal) (b : Fin 16 → EReal) (a : Fin 16) : EReal :=
  ∑ x : Fin 66, (if BitVec.ofNat 32 x = w then (1 : EReal) else 0) * W x a + b a

/-- A sequence offset, moved and clipped. -/
def clip (o : BitVec 32) : BitVec 32 := IntOp.minsi (64#32) (IntOp.maxsi (0#32) (o + 32#32))

/-- A radial centre. -/
def centre (k : ℕ) : EReal := ((2 + (k : ℝ) * (4 / 3) : ℝ) : EReal)

/-- A radial basis function of a distance. -/
def radial (d : EReal) (k : ℕ) : EReal :=
  Ideal.exp (0 - Ideal.div (d - centre k) (Ideal.ofBits .f32 1067450368#32) * Ideal.div (d - centre k) (Ideal.ofBits .f32 1067450368#32))

/-- The sixteen radial functions of nine distances, side by side. -/
def radials (d : Fin 9 → EReal) (a : Fin 144) : EReal := radial (d ⟨a / 16, by omega⟩) (a % 16)

/-- The distance of two points, as the pair distances take it. -/
def pairDist (x y : Fin 3 → EReal) : EReal :=
  Ideal.sqrt (((x 0 - y 0) * (x 0 - y 0) + (x 1 - y 1) * (x 1 - y 1) + (x 2 - y 2) * (x 2 - y 2)) + Ideal.ofBits .f32 897988541#32)

end Cert.Proof.Spec
end
-- ==== Proof.EdgeValue.lean ====
/- The second call's result, entry by entry. -/
module

public import proofs.«01_k».proof.Proof.EdgeIdx
public import proofs.«01_k».proof.Proof.Spec
public import Idealize.ShloMosaic.Lib.Pipeline.ValueKit

@[expose] public section

set_option maxRecDepth 16384

noncomputable section

namespace Cert.Proof.Edge

open Cert.KernelIdeal Cert.KernelIdeal.Gen
open Idealize.ShloMosaic Cert.Proof.Spec

variable (x0 : Vec Ideal S1x64x30 .i32) (x1 : Vec Ideal S1x64x30 .f32) (x2 x3 : Vec Ideal S1x512x32 .bf16) (x4 : Vec Ideal S1x64x24 .f32)
  (x5 : Vec Ideal S66x16 .f32) (x6 : Vec Ideal S1x16 .f32) (x7 : Vec Ideal S163x128 .f32) (x8 x9 : Vec Ideal S1x128 .f32)
  (n : Fin 64 → Fin 30 → Fin 512)

/-- The neighbour's row, gathered by the one-hot products of the two halves. -/
theorem nbr_row (hn : ∀ q k, x0 (ix3 0 q k) = BitVec.ofNat 32 (n q k)) (e : Fin 1920) (a : Fin 32) :
    k1_pay11 (k1_pay2 (View.ld x0 r1_0)) (k1_pay6 (F := Ideal)) lane30 k1_pay7 (View.ld x2 r1_2) (View.ld x3 r1_2) (ix2 e a)
      = x2 (ix3 0 (n (er e) (ek e)) a) + x3 (ix3 0 (n (er e) (ek e)) a) := by
  have h := edge_word x0 n hn e
  unfold k1_pay11
  generalize k1_pay10 (k1_pay2 (View.ld x0 r1_0)) (k1_pay6 (F := Ideal)) lane30 k1_pay7 = W at h
  have hb : ∀ x : Fin 512, (FloatOps.sitofp (F := Ideal) FTy.f32 (BitVec.setWidth 32 (IntOp.cmpi CmpIPredicate.eq (BitVec.ofNat 32 x) (W (ix2 e 0)))))
      = if (x : ℕ) = (n (er e) (ek e)).val then (1 : EReal) else 0 := fun x => by
    rw [h]
    exact bit_nat _ _ (by omega) (by have := (n (er e) (ek e)).isLt; omega)
  pointwise
  simp only [hb, pick_left]

/-- The nine distances' columns. -/
def nine (d0 : EReal) (v : Fin 24 → EReal) (p : Fin 9) : EReal :=
  if h : (p : ℕ) < 1 then d0
  else Ideal.sqrt ((v ⟨3 * (p - 1), by omega⟩ + v ⟨3 * (p - 1) + 1, by omega⟩ + v ⟨3 * (p - 1) + 2, by omega⟩) + Ideal.ofBits .f32 897988541#32)

/-- The nine distances of an edge: the given one, then the roots of the summed squares. -/
theorem dists (v : FVec Ideal S1920x24 .f32) (d : FVec Ideal S1920x1 .f32) (e : Fin 1920) (p : Fin 9) :
    k1_pay15 d v (iota .tc S24x8 32 [0] iota_S24x8_d0_w32) 3#32 k1_pay13 k1_pay14 (Scalar.extui (Scalar.cmpi .sgt 3#32 0#32)) 0#32 (ix2 e p)
      = nine (d (ix2 e 0)) (fun a => v (ix2 e a)) p := by
  have hb : ∀ (x : Fin 24) (q : Fin 8), (FloatOps.sitofp (F := Ideal) FTy.f32 (BitVec.setWidth 32 (IntOp.cmpi CmpIPredicate.eq (floorWord (BitVec.ofNat 32 x) 3#32) (BitVec.ofNat 32 q))))
      = if (x : ℕ) / 3 = q.val then (1 : EReal) else 0 := fun x q => by
    rw [floorWord_3]
    exact bit_nat _ _ (by omega) (by omega)
  unfold floorWord at hb
  unfold nine
  pointwise [k1_pay15, k1_pay13, k1_pay14]
  split
  · rename_i hp
    exact congrArg (fun q => d (ix2 e q)) (Fin.ext (show (p : ℕ) = 0 by omega))
  · rename_i hp
    have hq := fun x => hb x ⟨(p : ℕ) - 1, by omega⟩
    dsimp only at hq
    simp only [hq]
    have hs := seg_sum ⟨(p : ℕ) - 1, by omega⟩ (fun a => v (ix2 e a))
    dsimp only at hs
    rw [hs]

/-- The literal 2. -/
theorem two_word : Ideal.ofBits .f32 1073741824#32 = ((2 : ℝ) : EReal) := by
  simp [Ideal.ofBits, Ideal.ieee, -EReal.coe_mul]; norm_num

/-- A column's radial centre as the call computes it. -/
theorem centre_word (a : Fin 144) :
    Ideal.ofBits FTy.f32 1073741824#32
        + FloatOps.sitofp (F := Ideal) FTy.f32 (BitVec.ofNat 32 (↑a % 16)) * (Named.named (F := Ideal) κ "mu_step" (φ := .f32) 1068149419#32 : EReal)
      = centre (a % 16) := by
  rw [show (Named.named (F := Ideal) κ "mu_step" (φ := .f32) 1068149419#32 : EReal) = ((4 / 3 : ℝ) : EReal) from
    IdealRules.named_const.ideal_named_scalar _ _ _ _ rfl, two_word]
  show ((2 : ℝ) : EReal) + (((BitVec.ofNat 32 (↑a % 16)).toInt : ℝ) : EReal) * ((4 / 3 : ℝ) : EReal) = _
  rw [Cert.Proof.Rounds.toInt_small _ (by omega), ← EReal.coe_mul, ← EReal.coe_add]
  rfl

/-- The radial features of the nine distances, as the call computes them. -/
theorem wide_dist (d9 : FVec Ideal S1920x9 .f32) (e : Fin 1920) (a : Fin 144) :
    k1_pay17 d9 k1_pay16 (ix2 e a) = radials (fun p => d9 (ix2 e p)) a := by
  have hb : ∀ (x : Fin 9), (FloatOps.sitofp (F := Ideal) FTy.f32 (BitVec.setWidth 32 (IntOp.cmpi CmpIPredicate.eq (floorWord (BitVec.ofNat 32 a) 16#32) (BitVec.ofNat 32 x))))
      = if (x : ℕ) = (⟨a / 16, by omega⟩ : Fin 9).val then (1 : EReal) else 0 := fun x => by
    rw [floorWord_16, bit_nat _ _ (by omega) (by omega)]
    simp only [eq_comm]
  have hr := rem_word_16 a
  rw [← floorWord_16 a] at hr
  unfold floorWord at hb hr
  pointwise [k1_pay17, k1_pay16]
  have hp := pick_right (⟨a / 16, by omega⟩ : Fin 9) (fun x => d9 (ix2 e x))
  dsimp only at hp hb
  simp only [hb, hr, hp]
  rw [centre_word a]
  rfl

/-- The call's last stage: the features put side by side, embedded and normalised. -/
theorem lastStage (v30 : IVec S1920x1 32) (v53 : IVec S1920x1 32) (v66 : FVec Ideal S1920x32 .f32) (v175 : FVec Ideal S1920x144 .f32) (v177 : BitVec 32)  (e : Fin 1920) (f : Fin 128) :
    k1_pay1 (k1_pay19 v30 v53 v66 v175 (k1_pay18 v177) (View.ld x5 r1_3) (View.ld x6 r1_4) (View.ld x7 r1_5)) (View.ld x8 r1_6) (View.ld x9 r1_6) (ix3 0 e f)
      = layerNorm (embed (cat (position (clip (v177 * 64#32 + v30 (ix2 e 0) - v53 (ix2 e 0))) (fun a b => x5 (ix2 a b)) (fun b => x6 (ix2 0 b)))
          (fun a => v175 (ix2 e a)) (fun a => v66 (ix2 e ⟨24 + a, by omega⟩))) (fun c f => x7 (ix2 c f))) (fun f => x8 (ix2 0 f)) (fun f => x9 (ix2 0 f)) f := by
  unfold layerNorm mean embed cat position clip
  simp only [← bit_word]
  pointwise [k1_pay1, k1_pay19, k1_pay18]
  rfl

/-- The neighbour's row as the second call gathers it. -/
def gathered (e : Fin 1920) (a : Fin 32) : EReal := x2 (ix3 0 (n (er e) (ek e)) a) + x3 (ix3 0 (n (er e) (ek e)) a)

/-- The squared differences of an edge. -/
theorem squares (hn : ∀ q k, x0 (ix3 0 q k) = BitVec.ofNat 32 (n q k)) (e : Fin 1920) (a : Fin 24) :
    k1_pay12 (k1_pay2 (View.ld x0 r1_0)) (k1_pay4 (View.ld x4 r1_1)) (k1_pay6 (F := Ideal)) lane30 k1_pay7 (View.ld x2 r1_2) (View.ld x3 r1_2) (ix2 e a)
      = (x4 (ix3 0 (er e) a) - gathered x2 x3 n e ⟨a, by omega⟩) * (x4 (ix3 0 (er e) a) - gathered x2 x3 n e ⟨a, by omega⟩) := by
  have h := fun a => nbr_row x0 x2 x3 n hn e a
  unfold k1_pay12 gathered
  generalize k1_pay11 (k1_pay2 (View.ld x0 r1_0)) (k1_pay6 (F := Ideal)) lane30 k1_pay7 (View.ld x2 r1_2) (View.ld x3 r1_2) = W at h
  pointwise [k1_pay4, rowMask]
  simp only [pick_left, h]

/-- The second call's output block at one edge, from the blocks it reads. -/
theorem out1_10_apply (i : grid1.Coords) (hn : ∀ q k, x0 (ix3 0 q k) = BitVec.ofNat 32 (n q k)) (e : Fin 1920) (f : Fin 128) :
    out1_10 i x0 x1 x2 x3 x4 x5 x6 x7 x8 x9 (ix3 0 e f)
      = layerNorm (embed (cat (position (clip (BitVec.ofNat 32 (i 1).val * 64#32 + BitVec.ofNat 32 (er e).val - BitVec.ofNat 32 (n (er e) (ek e)).val))
            (fun a b => x5 (ix2 a b)) (fun b => x6 (ix2 0 b)))
          (radials (nine (x1 (ix3 0 (er e) (ek e))) (fun a => (x4 (ix3 0 (er e) a) - gathered x2 x3 n e ⟨a, by omega⟩) * (x4 (ix3 0 (er e) a) - gathered x2 x3 n e ⟨a, by omega⟩))))
          (fun a => gathered x2 x3 n e ⟨24 + a, by omega⟩))
        (fun c f => x7 (ix2 c f))) (fun f => x8 (ix2 0 f)) (fun f => x9 (ix2 0 f)) f := by
  unfold_out out1_10
  rw [View.canon_cons_unit_lit _ _ _ (by decide)]
  rw [lastStage x5 x6 x7 x8 x9 k1_pay5 _ _ _ _ e f]
  rw [row_word, edge_word x0 n hn e]
  simp only [nbr_row x0 x2 x3 n hn e, wide_dist, dists, first_dist, squares x0 x2 x3 x4 n hn e]
  unfold gathered
  refine congrArg (fun r => layerNorm (embed (cat _ (radials r) _) _) _ _ f) (funext fun p => ?_)
  refine (dists _ _ e p).trans ?_
  rw [first_dist]
  exact congrArg (fun v => nine _ v p) (funext fun a => squares x0 x2 x3 x4 n hn e a)

end Cert.Proof.Edge
end
-- ==== Proof.EdgeArray.lean ====
/- The second call's result array after its grid, edge by edge. -/
module

public import proofs.«01_k».proof.Proof.EdgeValue
public import proofs.«01_k».proof.Proof.Host

@[expose] public section

set_option maxRecDepth 16384

noncomputable section

namespace Cert.Proof.Edge

open Cert.KernelIdeal Cert.KernelIdeal.Gen
open Idealize.ShloMosaic Idealize.ShloMosaic.TcCoe Idealize.SL.Sem
open Idealize.ShloMosaic.Pipeline (Dat)
open Cert.Proof.Spec

/-- The index maps of the second call's windows. -/
theorem idx1 : ∀ t : Fin cfg1.N, win1_0.index t = ![(grid1.coords t 0).val, (grid1.coords t 1).val, 0] ∧ win1_1.index t = ![(grid1.coords t 0).val, (grid1.coords t 1).val, 0]
    ∧ win1_2.index t = ![(grid1.coords t 0).val, 0, 0] ∧ win1_3.index t = ![(grid1.coords t 0).val, 0, 0]
    ∧ win1_4.index t = ![(grid1.coords t 0).val, (grid1.coords t 1).val, 0] ∧ win1_5.index t = ![0, 0] ∧ win1_6.index t = ![0, 0]
    ∧ win1_7.index t = ![0, 0] ∧ win1_8.index t = ![0, 0] ∧ win1_9.index t = ![0, 0]
    ∧ win1_10.index t = ![(grid1.coords t 0).val, (grid1.coords t 1).val, 0] :=
  (by decide +kernel : ∀ t : Fin grid1.N, _)

variable (V : (c : Dev nD) → (b : Ref sig .tc) → Buf (Elt Ideal) ((c : Thread nD τ).loc b)) (c : Dev nD)

/-- The second call's operands as it starts. -/
abbrev eiA : IVec S8x512x30 32 := V c main_v1_1
/-- The neighbours' distances. -/
abbrev dnA : FVec Ideal S8x512x30 .f32 := V c main_v1_0
/-- The rows gathered from, leading part. -/
abbrev hiA : FVec Ideal S8x512x32 .bf16 := V c main_v10
/-- The rows gathered from, remainder. -/
abbrev loA : FVec Ideal S8x512x32 .bf16 := V c main_v13
/-- The left operands of the pair distances. -/
abbrev gaA : FVec Ideal S8x512x24 .f32 := V c main_v7
/-- The positional weights. -/
abbrev wpA : FVec Ideal S66x16 .f32 := V c main_v14
/-- The positional bias. -/
abbrev bpA : FVec Ideal S1x16 .f32 := V c main_v16
/-- The embedding's weights. -/
abbrev weA : FVec Ideal S163x128 .f32 := V c main_v15
/-- The norm's scale. -/
abbrev lgA : FVec Ideal S1x128 .f32 := V c main_v17
/-- The norm's shift. -/
abbrev lbA : FVec Ideal S1x128 .f32 := V c main_v18

/-- A row of the tile, counted in the whole chain. -/
def rowAt (t : Fin cfg1.N) (q : Fin 64) : Fin 512 := ⟨(grid1.coords t 1).val * 64 + q, by
  have h : (grid1.coords t 1).val < 8 := (grid1.coords t 1).isLt
  omega⟩

/-- The chain a step of the grid works on. -/
def tb (t : Fin cfg1.N) : Fin 8 := ⟨(grid1.coords t 0).val, (grid1.coords t 0).isLt⟩

/-- A grid step's block of neighbour indices, entry by entry. -/
theorem b0 (t : Fin cfg1.N) (q : Fin 64) (k : Fin 30) : iblk1 V c 0 t (ix3 0 q k) = eiA V c (ix3 (tb t) (rowAt t q) k) := by
  blk_ext [iblk1, tb, idx1 t, rowAt]
/-- A grid step's block of distances, entry by entry. -/
theorem b1 (t : Fin cfg1.N) (q : Fin 64) (k : Fin 30) : iblk1 V c 1 t (ix3 0 q k) = dnA V c (ix3 (tb t) (rowAt t q) k) := by
  blk_ext [iblk1, tb, idx1 t, rowAt]
/-- A grid step's block of leading parts, entry by entry. -/
theorem b2 (t : Fin cfg1.N) (q : Fin 512) (k : Fin 32) : iblk1 V c 2 t (ix3 0 q k) = hiA V c (ix3 (tb t) q k) := by
  blk_ext [iblk1, tb, idx1 t]
/-- A grid step's block of remainders, entry by entry. -/
theorem b3 (t : Fin cfg1.N) (q : Fin 512) (k : Fin 32) : iblk1 V c 3 t (ix3 0 q k) = loA V c (ix3 (tb t) q k) := by
  blk_ext [iblk1, tb, idx1 t]
/-- A grid step's block of left operands, entry by entry. -/
theorem b4 (t : Fin cfg1.N) (q : Fin 64) (k : Fin 24) : iblk1 V c 4 t (ix3 0 q k) = gaA V c (ix3 (tb t) (rowAt t q) k) := by
  blk_ext [iblk1, tb, idx1 t, rowAt]
/-- Every grid step reads all the positional weights. -/
theorem b5 (t : Fin cfg1.N) (q : Fin 66) (k : Fin 16) : iblk1 V c 5 t (ix2 q k) = wpA V c (ix2 q k) := by
  blk_ext [iblk1, tb, idx1 t]
/-- Every grid step reads the whole positional bias. -/
theorem b6 (t : Fin cfg1.N) (k : Fin 16) : iblk1 V c 6 t (ix2 0 k) = bpA V c (ix2 0 k) := by
  blk_ext [iblk1, tb, idx1 t]
/-- Every grid step reads all the embedding's weights. -/
theorem b7 (t : Fin cfg1.N) (q : Fin 163) (k : Fin 128) : iblk1 V c 7 t (ix2 q k) = weA V c (ix2 q k) := by
  blk_ext [iblk1, tb, idx1 t]
/-- Every grid step reads the whole scale. -/
theorem b8 (t : Fin cfg1.N) (k : Fin 128) : iblk1 V c 8 t (ix2 0 k) = lgA V c (ix2 0 k) := by
  blk_ext [iblk1, tb, idx1 t]
/-- Every grid step reads the whole shift. -/
theorem b9 (t : Fin cfg1.N) (k : Fin 128) : iblk1 V c 9 t (ix2 0 k) = lbA V c (ix2 0 k) := by
  blk_ext [iblk1, tb, idx1 t]

/-- The gathered row of an edge, from the two halves. -/
def gath (n : Fin 8 → Fin 512 → Fin 30 → Fin 512) (b : Fin 8) (i : Fin 512) (k : Fin 30) (a : Fin 32) : EReal :=
  hiA V c (ix3 b (n b i k) a) + loA V c (ix3 b (n b i k) a)

/-- The features of one edge as the second call leaves them. -/
def edge (n : Fin 8 → Fin 512 → Fin 30 → Fin 512) (b : Fin 8) (i : Fin 512) (k : Fin 30) (f : Fin 128) : EReal :=
  layerNorm (embed (cat (position (clip (BitVec.ofNat 32 i.val - BitVec.ofNat 32 (n b i k).val))
            (fun a b => wpA V c (ix2 a b)) (fun b => bpA V c (ix2 0 b)))
          (radials (nine (dnA V c (ix3 b i k)) (fun a => (gaA V c (ix3 b i a) - gath V c n b i k ⟨a, by omega⟩) * (gaA V c (ix3 b i a) - gath V c n b i k ⟨a, by omega⟩))))
          (fun a => gath V c n b i k ⟨24 + a, by omega⟩))
        (fun a f => weA V c (ix2 a f))) (fun f => lgA V c (ix2 0 f)) (fun f => lbA V c (ix2 0 f)) f

/-- A tile's row number as the call computes it, in words. -/
theorem tile_word (t : Fin cfg1.N) (q : Fin 64) :
    BitVec.ofNat 32 (grid1.coords t 1).val * 64#32 + BitVec.ofNat 32 q.val = BitVec.ofNat 32 (rowAt t q).val := by
  have h : (grid1.coords t 1).val < 8 := (grid1.coords t 1).isLt
  apply BitVec.eq_of_toNat_eq
  simp [rowAt]

/-- A grid step's value at one edge is that edge's formula. -/
theorem block_edge (n : Fin 8 → Fin 512 → Fin 30 → Fin 512) (hn : ∀ b i k, eiA V c (ix3 b i k) = BitVec.ofNat 32 (n b i k))
    (t : Fin cfg1.N) (e : Fin 1920) (f : Fin 128) :
    out1_10 (grid1.coords t) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix3 0 e f)
      = edge V c n (tb t) (rowAt t (er e)) (ek e) f := by
  rw [out1_10_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (fun q k => n (tb t) (rowAt t q) k) (grid1.coords t)
      (fun q k => (b0 V c t q k).trans (hn _ _ _)) e f]
  unfold edge gath gathered
  rw [tile_word]
  simp only [b1, b2, b3, b4, b5, b6, b7, b8, b9]

/-- The formula at equal coordinates is equal. -/
theorem edge_congr (n : Fin 8 → Fin 512 → Fin 30 → Fin 512) {b b' : Fin 8} {i i' : Fin 512} {k k' : Fin 30} {f f' : Fin 128}
    (hb : b.val = b'.val) (hi : i.val = i'.val) (hk : k.val = k'.val) (hf : f.val = f'.val) :
    edge V c n b i k f = edge V c n b' i' k' f' := by
  rw [Fin.ext hb, Fin.ext hi, Fin.ext hk, Fin.ext hf]

/-- A grid step's output block, entry by entry. -/
theorem block_at (n : Fin 8 → Fin 512 → Fin 30 → Fin 512) (hn : ∀ b i k, eiA V c (ix3 b i k) = BitVec.ofNat 32 (n b i k))
    (t : Fin cfg1.N) (y : S1x1920x128.Idx) :
    out1_10 (grid1.coords t) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) y
      = edge V c n (tb t) (rowAt t (er (y 1))) (ek (y 1)) (y 2) := by
  have hy : y = ix3 0 (y 1) (y 2) := by
    have : (y 0).val < 1 := (y 0).isLt
    funext d
    match d with
    | ⟨0, _⟩ => exact Fin.ext (by show (y 0).val = 0; omega)
    | ⟨1, _⟩ => rfl
    | ⟨2, _⟩ => rfl
  exact (congrArg _ hy).trans (block_edge V c n hn t (y 1) (y 2))

/-- The second call's output array: each entry is its edge's formula. -/
theorem final10 (n : Fin 8 → Fin 512 → Fin 30 → Fin 512) (hn : ∀ b i k, eiA V c (ix3 b i k) = BitVec.ofNat 32 (n b i k)) :
    (dat1 V c).arrAt 10 cfg1.N
      = (fun i => edge V c n (i 0) ⟨(i 1).val / 30, by have : (i 1).val < 15360 := (i 1).isLt; omega⟩ ⟨(i 1).val % 30, by omega⟩ (i 2) : FVec Ideal S8x15360x128 .f32) := by
  refine (dat1 V c).arrAt_eq_of_covers 10 _ (by decide +kernel) fun t _ y => ?_
  blk_simp
  rw [after1_10]
  have e1 : ((win1_10.blk t).view.emb y 1).val = (grid1.coords t 1).val * 1920 + (y 1).val := by
    blk_simp [idx1 t]
  have e0 : ((win1_10.blk t).view.emb y 0).val = (grid1.coords t 0).val := by
    blk_simp [idx1 t]
  have e2 : ((win1_10.blk t).view.emb y 2).val = (y 2).val := by
    blk_simp [idx1 t]
  have hy : (y 1).val < 1920 := (y 1).isLt
  have i1 : win1_10.index t 1 = (grid1.coords t 1).val := by rw [(idx1 t).2.2.2.2.2.2.2.2.2.2]; rfl
  refine (block_at V c n hn t y).trans (edge_congr V c n ?_ ?_ ?_ ?_)
  · exact e0.symm
  · show (grid1.coords t 1).val * 64 + (y 1).val / 30 = (win1_10.index t 1 * 1920 + (y 1).val) / 30
    rw [i1]; omega
  · show (y 1).val % 30 = (win1_10.index t 1 * 1920 + (y 1).val) % 30
    rw [i1]; omega
  · exact e2.symm

end Cert.Proof.Edge
end
-- ==== Proof.ShSpec.lean ====
/- The harmonics of a point with real coordinates, and the real identities behind them. -/
module

public import Mathlib.Analysis.SpecialFunctions.Complex.Arg
public import Mathlib.Analysis.SpecialFunctions.Trigonometric.Arctan
public import Mathlib.Analysis.SpecialFunctions.Trigonometric.Inverse
public import Idealize.ShloMosaic.PureOps.Ideal

@[expose] public section

set_option maxRecDepth 16384

noncomputable section

namespace Cert.Proof.Sh

open Idealize.ShloMosaic

/-- The cosine of a point's azimuth: one on the polar axis. -/
def cph (x y : ℝ) : ℝ := if 0 < Real.sqrt (x * x + y * y) then x / Real.sqrt (x * x + y * y) else 1

/-- The sine belonging to a cosine. -/
def root (c : ℝ) : ℝ := Real.sqrt (max (1 - c * c) 0)

/-- A rational over π². -/
def q (a : ℝ) : ℝ := a * (Real.pi⁻¹ * Real.pi⁻¹)

/-- The coefficients of degree 0, 1 and 2, from the azimuth's cosine `c` and its sine `s`. -/
def coef0 : ℝ := q (1 / 16)
/-- The degree-one sum, from the cosine and the sine. -/
def coef1 (c s : ℝ) : ℝ :=
  q (9 / 4) * (1 / 2 * s) * (1 / 2 * s) * (c * c) + q (9 / 16) * c * c + q (9 / 64) * (0 - s) * (0 - s) * (c * c)
/-- The degree-two sum, from the cosine and the sine. -/
def coef2 (c s : ℝ) : ℝ :=
  q 900 * ((1 - c * c) / 8) * ((1 - c * c) / 8) * ((2 * c * c - 1) * (2 * c * c - 1))
    + q (225 / 4) * (1 / 2 * c * s) * (1 / 2 * c * s) * (c * c)
    + q (25 / 16) * (1 / 2 * (3 * c * c - 1)) * (1 / 2 * (3 * c * c - 1))
    + q (25 / 576) * (-3 * c * s) * (-3 * c * s) * (c * c)
    + q (25 / 9216) * (3 * (1 - c * c)) * (3 * (1 - c * c)) * ((2 * c * c - 1) * (2 * c * c - 1))

/-- The coefficient of a degree. -/
def coef (l : Fin 3) (c : ℝ) : ℝ := match l with
  | ⟨0, _⟩ => coef0
  | ⟨1, _⟩ => coef1 c (root c)
  | ⟨2, _⟩ => coef2 c (root c)

/-- The harmonic of a degree at a point: zero at the origin. -/
def harm (l : Fin 3) (x y z : ℝ) : ℝ := if Real.sqrt (x * x + y * y + z * z) = 0 then 0 else Real.sqrt (coef l (cph x y))

/-- A nonnegative multiple of 1 / pi squared is nonnegative. -/
theorem q_nonneg (a : ℝ) (h : 0 ≤ a) : 0 ≤ q a := mul_nonneg h (mul_self_nonneg _)

/-- A term with two squares is nonnegative. -/
theorem part (a p m : ℝ) (h : 0 ≤ a) : 0 ≤ q a * p * p * (m * m) := by
  have := mul_nonneg (q_nonneg a h) (mul_nonneg (mul_self_nonneg p) (mul_self_nonneg m))
  nlinarith [this]

/-- A term with one square is nonnegative. -/
theorem part' (a p : ℝ) (h : 0 ≤ a) : 0 ≤ q a * p * p := by
  have := mul_nonneg (q_nonneg a h) (mul_self_nonneg p)
  nlinarith [this]

/-- The degree-zero sum is nonnegative. -/
theorem coef0_nonneg : 0 ≤ coef0 := q_nonneg _ (by norm_num)

/-- A term with a squared cosine is nonnegative. -/
theorem part1 (a p c : ℝ) (h : 0 ≤ a) : 0 ≤ q a * p * p * (c * c) := part a p c h

/-- The degree-one sum is nonnegative. -/
theorem coef1_nonneg (c s : ℝ) : 0 ≤ coef1 c s :=
  add_nonneg (add_nonneg (part _ _ _ (by norm_num)) (part' _ _ (by norm_num))) (part _ _ _ (by norm_num))

/-- The degree-two sum is nonnegative. -/
theorem coef2_nonneg (c s : ℝ) : 0 ≤ coef2 c s :=
  add_nonneg (add_nonneg (add_nonneg (add_nonneg (part _ _ _ (by norm_num)) (part _ _ _ (by norm_num))) (part' _ _ (by norm_num)))
    (part _ _ _ (by norm_num))) (part _ _ _ (by norm_num))

/-- The cosine of the angle the two-argument arctangent gives. -/
theorem cos_atan2 (x y : ℝ) : Real.cos (if 0 < x then Real.arctan (y / x)
      else if x < 0 then (if 0 ≤ y then Real.arctan (y / x) + Real.pi else Real.arctan (y / x) - Real.pi)
      else if 0 < y then Real.pi / 2 else if y < 0 then -(Real.pi / 2) else 0) = cph x y := by
  have pos : ∀ u v : ℝ, 0 < u → Real.cos (Real.arctan (v / u)) = u / Real.sqrt (u * u + v * v) := by
    intro u v hu
    rw [Real.cos_arctan]
    have e : 1 + (v / u) ^ 2 = (u * u + v * v) / (u * u) := by field_simp
    rw [e, Real.sqrt_div (add_nonneg (mul_self_nonneg u) (mul_self_nonneg v)), Real.sqrt_mul_self hu.le, one_div_div]
  unfold cph
  rcases lt_trichotomy x 0 with hx | hx | hx
  · have hs : 0 < x * x + y * y := by nlinarith [mul_self_nonneg y]
    rw [if_neg (not_lt.mpr hx.le), if_pos hx, if_pos (Real.sqrt_pos.mpr hs)]
    have e : Real.cos (Real.arctan (y / x)) = -x / Real.sqrt (x * x + y * y) := by
      have := pos (-x) (-y) (by linarith)
      rw [neg_div_neg_eq] at this
      rw [this]; congr 2; ring
    have e2 : (if 0 ≤ y then Real.arctan (y / x) + Real.pi else Real.arctan (y / x) - Real.pi)
        = if 0 ≤ y then Real.arctan (y / x) + Real.pi else Real.arctan (y / x) - Real.pi := rfl
    split
    · rw [Real.cos_add_pi, e]; ring
    · rw [Real.cos_sub_pi, e]; ring
  · subst hx
    rw [if_neg (lt_irrefl _), if_neg (lt_irrefl _)]
    rcases lt_trichotomy y 0 with hy | hy | hy
    · rw [if_neg (not_lt.mpr hy.le), if_pos hy, Real.cos_neg, Real.cos_pi_div_two]
      rw [zero_div]
      have hs : 0 < (0 : ℝ) * 0 + y * y := by nlinarith
      rw [if_pos (Real.sqrt_pos.mpr hs)]
    · subst hy
      simp
    · rw [if_pos hy, Real.cos_pi_div_two, zero_div]
      have hs : 0 < (0 : ℝ) * 0 + y * y := by nlinarith
      rw [if_pos (Real.sqrt_pos.mpr hs)]
  · have hs : 0 < x * x + y * y := by nlinarith [mul_self_nonneg y]
    rw [if_pos hx, if_pos (Real.sqrt_pos.mpr hs), pos x y hx]

/-- A coordinate is at most the length in size. -/
theorem ratio_le (x y z : ℝ) (h : Real.sqrt (x * x + y * y + z * z) ≠ 0) : |z * (1 / Real.sqrt (x * x + y * y + z * z))| ≤ 1 := by
  have hp : 0 < Real.sqrt (x * x + y * y + z * z) := lt_of_le_of_ne (Real.sqrt_nonneg _) (Ne.symm h)
  rw [mul_one_div, abs_div, abs_of_pos hp, div_le_one hp]
  refine Real.le_sqrt_of_sq_le ?_
  rw [sq_abs]
  nlinarith [mul_self_nonneg x, mul_self_nonneg y]

end Cert.Proof.Sh
end
-- ==== Proof.ShLit.lean ====
/- The literals of the harmonics, as reals, and the root both programs take of one less a square. -/
module

public import proofs.«01_k».proof.Proof.ShSpec

@[expose] public section

set_option maxRecDepth 16384

noncomputable section

namespace Cert.Proof.Sh

open Idealize.ShloMosaic

/-- One as a real. -/
theorem one_real : (1 : EReal) = ((1 : ℝ) : EReal) := EReal.coe_one.symm
/-- Zero as a real. -/
theorem zero_real : (0 : EReal) = ((0 : ℝ) : EReal) := EReal.coe_zero.symm

/-- The literal -3. -/
theorem lit_m3 : Ideal.ofBits .f32 3225419776#32 = ((-3 : ℝ) : EReal) := by
  simp [Ideal.ofBits, Ideal.ieee, -EReal.coe_mul]
  norm_num

/-- The literal -2. -/
theorem lit_m2 : Ideal.ofBits .f32 3221225472#32 = ((-2 : ℝ) : EReal) := by
  simp [Ideal.ofBits, Ideal.ieee, -EReal.coe_mul]
  norm_num

/-- The literal -1. -/
theorem lit_m1 : Ideal.ofBits .f32 3212836864#32 = ((-1 : ℝ) : EReal) := by
  simp [Ideal.ofBits, Ideal.ieee, -EReal.coe_mul]
  norm_num

/-- The literal 1/2. -/
theorem lit_1o2 : Ideal.ofBits .f32 1056964608#32 = ((1 / 2 : ℝ) : EReal) := by
  simp [Ideal.ofBits, Ideal.ieee, -EReal.coe_mul]
  norm_num

/-- The literal 2. -/
theorem lit_2 : Ideal.ofBits .f32 1073741824#32 = ((2 : ℝ) : EReal) := by
  simp [Ideal.ofBits, Ideal.ieee, -EReal.coe_mul]
  norm_num

/-- The literal 3. -/
theorem lit_3 : Ideal.ofBits .f32 1077936128#32 = ((3 : ℝ) : EReal) := by
  simp [Ideal.ofBits, Ideal.ieee, -EReal.coe_mul]
  norm_num

/-- The literal 4. -/
theorem lit_4 : Ideal.ofBits .f32 1082130432#32 = ((4 : ℝ) : EReal) := by
  simp [Ideal.ofBits, Ideal.ieee, -EReal.coe_mul]
  norm_num

/-- The literal 5. -/
theorem lit_5 : Ideal.ofBits .f32 1084227584#32 = ((5 : ℝ) : EReal) := by
  simp [Ideal.ofBits, Ideal.ieee, -EReal.coe_mul]
  norm_num

/-- The literal 6. -/
theorem lit_6 : Ideal.ofBits .f32 1086324736#32 = ((6 : ℝ) : EReal) := by
  simp [Ideal.ofBits, Ideal.ieee, -EReal.coe_mul]
  norm_num

/-- The literal 8. -/
theorem lit_8 : Ideal.ofBits .f32 1090519040#32 = ((8 : ℝ) : EReal) := by
  simp [Ideal.ofBits, Ideal.ieee, -EReal.coe_mul]
  norm_num

/-- The literal 24. -/
theorem lit_24 : Ideal.ofBits .f32 1103101952#32 = ((24 : ℝ) : EReal) := by
  simp [Ideal.ofBits, Ideal.ieee, -EReal.coe_mul]
  norm_num

/-- The root of a nonnegative real is the real root. -/
theorem sqrt_real (r : ℝ) (h : 0 ≤ r) : Ideal.sqrt (r : EReal) = ((Real.sqrt r : ℝ) : EReal) :=
  (Ideal.sqrt_coe (r := r)).trans (if_neg (not_lt.mpr h))

/-- The maximum of two reals is the real maximum. -/
theorem max_real (x y : ℝ) : max (x : EReal) (y : EReal) = ((max x y : ℝ) : EReal) :=
  ((Monotone.map_max (f := fun r : ℝ => (r : EReal)) (fun a b h => EReal.coe_le_coe_iff.mpr h)).symm)

/-- The sine belonging to a cosine, as both programs take it. -/
theorem root_coe (c : ℝ) : Ideal.sqrt (max (1 - (c : EReal) * (c : EReal)) 0) = ((root c : ℝ) : EReal) := by
  rw [one_real, zero_real, ← EReal.coe_mul, ← EReal.coe_sub, max_real]
  exact sqrt_real _ (le_max_right _ _)

end Cert.Proof.Sh
end
-- ==== Proof.ShKernel.lean ====
/- The first call's third result, the harmonics of a residue with real coordinates. -/
module

public import proofs.«01_k».proof.Proof.RoundsRead
public import proofs.«01_k».proof.Proof.ShLit

@[expose] public section

set_option maxRecDepth 16384

noncomputable section

namespace Cert.Proof.Sh

open Cert.KernelIdeal Cert.KernelIdeal.Gen
open Idealize.ShloMosaic Idealize.ShloMosaic.TcCoe Idealize.SL.Sem

/-- The constant of degree 0 and order 0. -/
theorem name_0p0 : Named.named (F := Ideal) Cert.KernelIdeal.κ "pref4_0p0" (φ := .f32) 1003454843#32 = ((q (1 / 16) : ℝ) : EReal) :=
  IdealRules.named_const.ideal_named_scalar _ _ _ _ rfl

/-- The constant of degree 1 and order -1. -/
theorem name_1m1 : Named.named (F := Ideal) Cert.KernelIdeal.κ "pref4_1m1" (φ := .f32) 1047097770#32 = ((q (9 / 4) : ℝ) : EReal) :=
  IdealRules.named_const.ideal_named_scalar _ _ _ _ rfl

/-- The constant of degree 1 and order 0. -/
theorem name_1p0 : Named.named (F := Ideal) Cert.KernelIdeal.κ "pref4_1p0" (φ := .f32) 1030320554#32 = ((q (9 / 16) : ℝ) : EReal) :=
  IdealRules.named_const.ideal_named_scalar _ _ _ _ rfl

/-- The constant of degree 1 and order 1. -/
theorem name_1p1 : Named.named (F := Ideal) Cert.KernelIdeal.κ "pref4_1p1" (φ := .f32) 1013543338#32 = ((q (9 / 64) : ℝ) : EReal) :=
  IdealRules.named_const.ideal_named_scalar _ _ _ _ rfl

/-- The constant of degree 2 and order -2. -/
theorem name_2m2 : Named.named (F := Ideal) Cert.KernelIdeal.κ "pref4_2m2" (φ := .f32) 1119248589#32 = ((q (900) : ℝ) : EReal) :=
  IdealRules.named_const.ideal_named_scalar _ _ _ _ rfl

/-- The constant of degree 2 and order -1. -/
theorem name_2m1 : Named.named (F := Ideal) Cert.KernelIdeal.κ "pref4_2m1" (φ := .f32) 1085694157#32 = ((q (225 / 4) : ℝ) : EReal) :=
  IdealRules.named_const.ideal_named_scalar _ _ _ _ rfl

/-- The constant of degree 2 and order 0. -/
theorem name_2p0 : Named.named (F := Ideal) Cert.KernelIdeal.κ "pref4_2p0" (φ := .f32) 1042423080#32 = ((q (25 / 16) : ℝ) : EReal) :=
  IdealRules.named_const.ideal_named_scalar _ _ _ _ rfl

/-- The constant of degree 2 and order 1. -/
theorem name_2p1 : Named.named (F := Ideal) Cert.KernelIdeal.κ "pref4_2p1" (φ := .f32) 999299563#32 = ((q (25 / 576) : ℝ) : EReal) :=
  IdealRules.named_const.ideal_named_scalar _ _ _ _ rfl

/-- The constant of degree 2 and order 2. -/
theorem name_2p2 : Named.named (F := Ideal) Cert.KernelIdeal.κ "pref4_2p2" (φ := .f32) 965745131#32 = ((q (25 / 9216) : ℝ) : EReal) :=
  IdealRules.named_const.ideal_named_scalar _ _ _ _ rfl

variable (v : FVec Ideal S512x3 .f32) (i : Fin 512) (x y z : ℝ) (hx : v (ix2 i 0) = (x : EReal)) (hy : v (ix2 i 1) = (y : EReal))
  (hz : v (ix2 i 2) = (z : EReal))

include hx hy in
/-- The cosine of the azimuth. -/
theorem cos_lane : k0_pay105 (k0_pay100 v) (k0_pay101 v) (ix2 i 0) = ((cph x y : ℝ) : EReal) := by
  pointwise [k0_pay105, k0_pay100, k0_pay101]
  have hn : 0 ≤ x * x + y * y := by nlinarith [mul_self_nonneg x, mul_self_nonneg y]
  rw [hx, hy, ← EReal.coe_mul, ← EReal.coe_mul, ← EReal.coe_add, sqrt_real _ hn]
  unfold cph
  by_cases h : 0 < Real.sqrt (x * x + y * y)
  · rw [if_pos (EReal.coe_pos.mpr h), if_pos h, Ideal.div_coe h.ne', ← EReal.coe_mul, mul_one_div]
  · rw [if_neg (fun e => h (EReal.coe_pos.mp e)), if_neg h]
    exact one_real

include hx hy hz in
/-- The mark of the origin. -/
theorem bad_lane : k0_pay104 (k0_pay102 v) (k0_pay103 (F := Ideal)) (ix2 i 0) = if Real.sqrt (x * x + y * y + z * z) = 0 then 1#1 else 0#1 := by
  pointwise [k0_pay104, k0_pay102, k0_pay103, k0_pay100, k0_pay101]
  have hn : 0 ≤ x * x + y * y + z * z := by nlinarith [mul_self_nonneg x, mul_self_nonneg y, mul_self_nonneg z]
  rw [hx, hy, hz, ← EReal.coe_mul, ← EReal.coe_mul, ← EReal.coe_mul, ← EReal.coe_add, ← EReal.coe_add, sqrt_real _ hn]
  by_cases h : Real.sqrt (x * x + y * y + z * z) = 0
  · rw [if_pos h, h]
    have hz0 : z = 0 := by
      have := (Real.sqrt_eq_zero hn).mp h
      nlinarith [mul_self_nonneg x, mul_self_nonneg y, mul_self_nonneg z]
    have e : FloatOps.absf (F := Ideal) (φ := .f32) (Ideal.div ((z : ℝ) : EReal) ((0 : ℝ) : EReal)) = ⊤ := by
      rw [hz0]
      show max (Ideal.div ((0 : ℝ) : EReal) ((0 : ℝ) : EReal)) (-(Ideal.div ((0 : ℝ) : EReal) ((0 : ℝ) : EReal))) = ⊤
      simp [Ideal.div]
    rw [e]
    simp
    decide
  · rw [if_neg h, Ideal.div_coe h, ← EReal.coe_mul]
    have hr := ratio_le x y z h
    have e : FloatOps.absf (F := Ideal) (φ := .f32) ((z * (1 / Real.sqrt (x * x + y * y + z * z)) : ℝ) : EReal)
        = ((|z * (1 / Real.sqrt (x * x + y * y + z * z))| : ℝ) : EReal) := rfl
    rw [e, one_real, decide_eq_true (EReal.coe_le_coe_iff.mpr hr)]
    decide

variable (X Y : FVec Ideal S512x1 .f32) (c : ℝ) (h : k0_pay105 X Y (ix2 i 0) = (c : EReal))
include h

/-- The sine lane. -/
theorem sin_lane : k0_pay106 X Y (ix2 i 0) = ((root c : ℝ) : EReal) := by
  unfold k0_pay106
  generalize k0_pay105 X Y = W at h
  pointwise []
  rw [h]
  exact root_coe c

/-- The squared cosine lane. -/
theorem sq_lane : k0_pay107 X Y (ix2 i 0) = ((c * c : ℝ) : EReal) := by
  unfold k0_pay107
  generalize k0_pay105 X Y = W at h
  pointwise []
  rw [h, ← EReal.coe_mul]

/-- The squared double-angle lane. -/
theorem dbl_lane : k0_pay108 X Y (ix2 i 0) = (((2 * c * c - 1) * (2 * c * c - 1) : ℝ) : EReal) := by
  unfold k0_pay108
  generalize k0_pay105 X Y = W at h
  pointwise []
  rw [h, one_real, lit_2]
  simp only [← EReal.coe_mul, ← EReal.coe_sub]

/-- The degree-one lane's first terms. -/
theorem one_lane : k0_pay110 X Y (ix2 i 0)
    = ((q (9 / 4) * (1 / 2 * root c) * (1 / 2 * root c) * (c * c) + q (9 / 16) * c * c : ℝ) : EReal) := by
  have hs := sin_lane i X Y c h
  have hq := sq_lane i X Y c h
  unfold k0_pay110
  generalize k0_pay105 X Y = W at h
  generalize k0_pay106 X Y = S at hs
  generalize k0_pay107 X Y = Q at hq
  pointwise []
  rw [h, hs, hq, name_1m1, name_1p0, lit_1o2]
  simp only [← EReal.coe_mul, ← EReal.coe_add]

omit h
variable (m : IVec S512x1 1) (w : BitVec 1) (hm : m (ix2 i 0) = w)

include hm in
/-- The degree-one sum. -/
theorem deg1 (s q2 a : FVec Ideal S512x1 .f32) (hs : s (ix2 i 0) = ((root c : ℝ) : EReal)) (hq : q2 (ix2 i 0) = ((c * c : ℝ) : EReal))
    (ha : a (ix2 i 0) = ((q (9 / 4) * (1 / 2 * root c) * (1 / 2 * root c) * (c * c) + q (9 / 16) * c * c : ℝ) : EReal)) :
    k0_pay111 m s q2 a (ix2 i 0) = Scalar.select w 0 ((Real.sqrt (coef1 c (root c)) : ℝ) : EReal) := by
  pointwise [k0_pay111]
  rw [hm, hs, hq, ha, name_1p1, zero_real]
  simp only [← EReal.coe_mul, ← EReal.coe_add, ← EReal.coe_sub]
  exact congrArg (Scalar.select w _) (sqrt_real _ (coef1_nonneg c (root c)))

/-- The first terms of the degree-two sum. -/
theorem deg2_part (C s q2 d : FVec Ideal S512x1 .f32) (hC : C (ix2 i 0) = (c : EReal)) (hs : s (ix2 i 0) = ((root c : ℝ) : EReal))
    (hq : q2 (ix2 i 0) = ((c * c : ℝ) : EReal)) (hd : d (ix2 i 0) = (((2 * c * c - 1) * (2 * c * c - 1) : ℝ) : EReal)) :
    k0_pay112 C s q2 d (ix2 i 0) = ((q 900 * ((1 - c * c) / 8) * ((1 - c * c) / 8) * ((2 * c * c - 1) * (2 * c * c - 1))
    + q (225 / 4) * (1 / 2 * c * root c) * (1 / 2 * c * root c) * (c * c)
    + q (25 / 16) * (1 / 2 * (3 * c * c - 1)) * (1 / 2 * (3 * c * c - 1)) : ℝ) : EReal) := by
  pointwise [k0_pay112]
  rw [hC, hs, hq, hd, name_2m2, name_2m1, name_2p0, one_real, lit_1o2, lit_3, lit_8]
  rw [Ideal.div_coe (by norm_num)]
  simp only [← EReal.coe_mul, ← EReal.coe_add, ← EReal.coe_sub]
  exact congrArg _ (by ring)

/-- The degree-two Legendre lane. -/
theorem tri_lane (C s : FVec Ideal S512x1 .f32) (hC : C (ix2 i 0) = (c : EReal)) (hs : s (ix2 i 0) = ((root c : ℝ) : EReal)) :
    k0_pay113 C s (ix2 i 0) = ((-3 * c * root c : ℝ) : EReal) := by
  pointwise [k0_pay113]
  rw [hC, hs, lit_m3]
  simp only [← EReal.coe_mul]

/-- The same times its constant. -/
theorem named_tri_lane (C s : FVec Ideal S512x1 .f32) (hC : C (ix2 i 0) = (c : EReal)) (hs : s (ix2 i 0) = ((root c : ℝ) : EReal)) :
    k0_pay114 C s (ix2 i 0) = ((q (25 / 576) * (-3 * c * root c) : ℝ) : EReal) := by
  have ht := tri_lane i c C s hC hs
  unfold k0_pay114
  generalize k0_pay113 C s = T at ht
  pointwise []
  rw [ht, name_2p1, ← EReal.coe_mul]

/-- The degree-zero lane. -/
theorem deg0 (W : FVec Ideal S512x1 .f32) (hW : k0_pay104 W (k0_pay103 (F := Ideal)) (ix2 i 0) = w) :
    k0_pay109 W (k0_pay103 (F := Ideal)) (ix2 i 0) = Scalar.select w 0 ((Real.sqrt coef0 : ℝ) : EReal) := by
  unfold k0_pay109
  generalize k0_pay104 W (k0_pay103 (F := Ideal)) = U at hW
  pointwise []
  rw [hW, name_0p0]
  exact congrArg (Scalar.select w _) (sqrt_real _ coef0_nonneg)

include hm in
/-- The three lanes side by side, with zero where the ratio is out of range. -/
theorem lanes (C q2 d a0 a1 a a7 a8 : FVec Ideal S512x1 .f32) (hC : C (ix2 i 0) = (c : EReal)) (hq : q2 (ix2 i 0) = ((c * c : ℝ) : EReal))
    (hd : d (ix2 i 0) = (((2 * c * c - 1) * (2 * c * c - 1) : ℝ) : EReal))
    (h0 : a0 (ix2 i 0) = Scalar.select w 0 ((Real.sqrt coef0 : ℝ) : EReal))
    (h1 : a1 (ix2 i 0) = Scalar.select w 0 ((Real.sqrt (coef1 c (root c)) : ℝ) : EReal))
    (ha : a (ix2 i 0) = ((q 900 * ((1 - c * c) / 8) * ((1 - c * c) / 8) * ((2 * c * c - 1) * (2 * c * c - 1))
      + q (225 / 4) * (1 / 2 * c * root c) * (1 / 2 * c * root c) * (c * c)
      + q (25 / 16) * (1 / 2 * (3 * c * c - 1)) * (1 / 2 * (3 * c * c - 1)) : ℝ) : EReal))
    (h7 : a7 (ix2 i 0) = ((-3 * c * root c : ℝ) : EReal)) (h8 : a8 (ix2 i 0) = ((q (25 / 576) * (-3 * c * root c) : ℝ) : EReal)) (l : Fin 3) :
    k0_pay1 m C q2 d a0 a1 a a7 a8 (ix3 0 i l) = Scalar.select w 0 ((Real.sqrt (coef l c) : ℝ) : EReal) := by
  match l with
  | ⟨0, _⟩ =>
    pointwise [k0_pay1]
    exact h0
  | ⟨1, _⟩ =>
    pointwise [k0_pay1]
    exact h1
  | ⟨2, _⟩ =>
    pointwise [k0_pay1]
    rw [hm, ha, h7, h8, hC, hq, hd, name_2p2, one_real, lit_3]
    simp only [← EReal.coe_mul, ← EReal.coe_add, ← EReal.coe_sub]
    exact congrArg (Scalar.select w _) (sqrt_real _ (coef2_nonneg c (root c)))

/-- The first call's third result: the harmonics. -/
theorem out0_4_apply (x0 : Vec Ideal S1x512x3 .f32) (x1 : Vec Ideal S1x3x512 .f32) (i : Fin 512) (l : Fin 3) (x y z : ℝ)
    (hx : x0 (ix3 0 i 0) = (x : EReal)) (hy : x0 (ix3 0 i 1) = (y : EReal)) (hz : x0 (ix3 0 i 2) = (z : EReal)) :
    out0_4 x0 x1 (ix3 0 i l) = ((harm l x y z : ℝ) : EReal) := by
  have ex : ∀ a : Fin 3, k0_pay2 (View.ld x0 r0_0) (ix2 i a) = x0 (ix3 0 i a) := fun a => by
    pointwise [k0_pay2]
  unfold_out out0_4
  rw [View.canon_cons_unit_lit _ _ _ (by decide)]
  have hx' := (ex 0).trans hx
  have hy' := (ex 1).trans hy
  have hz' := (ex 2).trans hz
  generalize k0_pay2 (View.ld x0 r0_0) = v at hx' hy' hz'
  have hc := cos_lane v i x y hx' hy'
  have hb := bad_lane v i x y z hx' hy' hz'
  have hs := sin_lane i _ _ _ hc
  have hq := sq_lane i _ _ _ hc
  have hd := dbl_lane i _ _ _ hc
  refine (lanes i _ _ _ hb _ _ _ _ _ _ _ _ hc hq hd (deg0 i _ _ hb) (deg1 i _ _ _ hb _ _ _ hs hq (one_lane i _ _ _ hc))
    (deg2_part i _ _ _ _ _ hc hs hq hd) (tri_lane i _ _ _ hc hs) (named_tri_lane i _ _ _ hc hs) l).trans ?_
  unfold harm
  by_cases h0 : Real.sqrt (x * x + y * y + z * z) = 0
  · rw [if_pos h0, if_pos h0]
    exact zero_real
  · rw [if_neg h0, if_neg h0]
    rfl

end Cert.Proof.Sh
end
-- ==== Proof.RefTop.lean ====
/- The reference's neighbours: the thirty positions its top-k takes, and their distances. -/
module

public import proofs.«01_k».proof.Proof.Gen.ReferenceIdeal.Read
public import proofs.«01_k».proof.Proof.RoundsRead

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Rounds (len eps6 toInt_small)
open Cert.Proof.Select (nbr left first sortedFrom_eq_nbr)

/-- What the precondition says of the first four arguments. -/
structure SetUp (x0 : FVec Ideal S8x512x3 .f32) (x1 : FVec Ideal S8x512 .f32) (x2 x3 : IVec S8x512 32) : Prop where
  fin : ∀ b i c, ∃ r : ℝ, x0 (ix3 b i c) = (r : EReal)
  one : ∀ b i, x1 (ix2 b i) = 1
  res : ∀ b (i : Fin 512), x2 (ix2 b i) = x2 (ix2 b 0) + BitVec.ofNat 32 i.val
  chain : ∀ b i, x3 (ix2 b i) = x3 (ix2 b 0)

/-- A residue's coordinates. -/
def pt (x0 : FVec Ideal S8x512x3 .f32) (b : Fin 8) (i : Fin 512) : Fin 3 → EReal := fun c => x0 (ix3 b i c)

/-- The small summand under the roots is a positive real. -/
theorem eps6_real : ∃ r : ℝ, 0 < r ∧ eps6 = (r : EReal) := by
  refine ⟨_, ?_, by simp [eps6, Ideal.ofBits, Ideal.ieee, -EReal.coe_mul]; rfl⟩
  norm_num

/-- The distance of two points with real coordinates is real, and does not depend on their order. -/
theorem len_real (u v : Fin 3 → EReal) (hu : ∀ c, ∃ r : ℝ, u c = r) (hv : ∀ c, ∃ r : ℝ, v c = r) :
    ∃ r : ℝ, 0 ≤ r ∧ len u v = (r : EReal) ∧ len v u = (r : EReal) := by
  choose f hf using hu
  choose g hg using hv
  obtain ⟨e, he, hE⟩ := eps6_real
  refine ⟨Real.sqrt ((f 0 - g 0) * (f 0 - g 0) + (f 1 - g 1) * (f 1 - g 1) + (f 2 - g 2) * (f 2 - g 2) + e), Real.sqrt_nonneg _, ?_, ?_⟩
  · unfold len
    rw [hE]
    simp only [hf, hg]
    norm_cast
    exact (Ideal.sqrt_coe (r := _)).trans (if_neg (not_lt.mpr (by nlinarith [mul_self_nonneg (f 0 - g 0), mul_self_nonneg (f 1 - g 1), mul_self_nonneg (f 2 - g 2)])))
  · unfold len
    rw [hE]
    simp only [hf, hg]
    norm_cast
    rw [show (f 0 - g 0) * (f 0 - g 0) + (f 1 - g 1) * (f 1 - g 1) + (f 2 - g 2) * (f 2 - g 2) + e
      = (g 0 - f 0) * (g 0 - f 0) + (g 1 - f 1) * (g 1 - f 1) + (g 2 - f 2) * (g 2 - f 2) + e by ring]
    exact (Ideal.sqrt_coe (r := _)).trans (if_neg (not_lt.mpr (by nlinarith [mul_self_nonneg (g 0 - f 0), mul_self_nonneg (g 1 - f 1), mul_self_nonneg (g 2 - f 2)])))

/-- The distance of two real points is symmetric. -/
theorem len_comm (u v : Fin 3 → EReal) (hu : ∀ c, ∃ r : ℝ, u c = r) (hv : ∀ c, ∃ r : ℝ, v c = r) : len u v = len v u := by
  obtain ⟨r, _, h1, h2⟩ := len_real u v hu hv
  rw [h1, h2]

variable {x0 : FVec Ideal S8x512x3 .f32} {x1 : FVec Ideal S8x512 .f32} {x2 x3 : IVec S8x512 32} (h : SetUp x0 x1 x2 x3)
include h

/-- The reference's distances. -/
theorem v14_at (b : Fin 8) (i j : Fin 512) : val_main_v14 (F := Ideal) x0 (ix3 b i j) = len (pt x0 b j) (pt x0 b i) := by
  unfold val_main_v14 val_main_v13 val_main_v12 val_main_v11 val_main_v10 val_main_v9 val_main_v8 val_main_v7 val_main_v6 val_main_v5
    val_main_cst_0 val_main_cst
  pointwise []
  unfold len
  rw [Fin.sum_univ_three]
  rfl

/-- The reference's adjusted distances are the plain distances. -/
theorem v22_at (b : Fin 8) (i j : Fin 512) : val_main_v22 (F := Ideal) x0 x1 (ix3 b i j) = len (pt x0 b i) (pt x0 b j) := by
  unfold val_main_v22 val_main_v21 val_main_v20 val_main_v17
  generalize val_main_v16 (F := Ideal) x0 x1 = W
  unfold val_main_v15 val_main_v19 val_main_v4 val_main_v3 val_main_v2 val_main_v1 val_main_v0 val_main_v18 val_main_cst_2
  have e := v14_at h b i j
  generalize val_main_v14 (F := Ideal) x0 = Y at e
  pointwise []
  have z : (1 : EReal) - 1 = 0 := by rw [← EReal.coe_one, ← EReal.coe_sub, sub_self, EReal.coe_zero]
  rw [h.one, h.one, e, one_mul, one_mul, z, zero_mul, add_zero]
  exact len_comm _ _ (h.fin b j) (h.fin b i)

/-- The distances from one residue, in the order of the others. -/
def dists (x0 : FVec Ideal S8x512x3 .f32) (b : Fin 8) (i : Fin 512) : Fin 512 → EReal := fun j => len (pt x0 b i) (pt x0 b j)

/-- The neighbour of a residue at a rank. -/
def near (x0 : FVec Ideal S8x512x3 .f32) (b : Fin 8) (i : Fin 512) (k : Fin 30) : Fin 512 := nbr (dists x0 b i) k

omit h in
/-- Comparing negatives turns the order around. -/
theorem gt_neg (a b : EReal) : (FloatOps.cmpfTotal (F := Ideal) (φ := .f32) .gt (-a) (-b) == 1#1) = decide (a < b) := by
  show (Ideal.cmp .ogt (-a) (-b) == 1#1) = _
  simp only [Ideal.cmp]
  by_cases hab : a < b
  · simp [hab]
  · simp [hab]

/-- Every distance is below infinity. -/
theorem dists_lt (b : Fin 8) (i j : Fin 512) : dists x0 b i j < ⊤ := by
  obtain ⟨r, _, hr, _⟩ := len_real (pt x0 b i) (pt x0 b j) (h.fin b i) (h.fin b j)
  unfold dists
  rw [hr]
  exact EReal.coe_lt_top r

/-- The place the sort puts a rank's entry from. -/
theorem place (b : Fin 8) (i : Fin 512) (k : Fin 30) :
    sortedFrom (fun p q : Fin 512 => FloatOps.cmpfTotal (F := Ideal) (φ := .f32) .gt (val_main_v23 (F := Ideal) x0 x1 (ix3 b i p))
      (val_main_v23 (F := Ideal) x0 x1 (ix3 b i q)) == 1#1) ⟨k.val, by omega⟩ = near x0 b i k := by
  have e : (fun p q : Fin 512 => FloatOps.cmpfTotal (F := Ideal) (φ := .f32) .gt (val_main_v23 (F := Ideal) x0 x1 (ix3 b i p))
      (val_main_v23 (F := Ideal) x0 x1 (ix3 b i q)) == 1#1) = fun p q => decide (dists x0 b i p < dists x0 b i q) := by
    funext p q
    rw [val_main_v23_apply, val_main_v23_apply, v22_at h, v22_at h]
    exact gt_neg _ _
  rw [e]
  exact sortedFrom_eq_nbr (dists x0 b i) (dists_lt h b i) k (by omega)

omit h in
/-- Moving along the last axis changes the last coordinate. -/
theorem along_ix3 (b : Fin 8) (i : Fin 512) (p q : Fin 512) : Shape.Idx.along (s := S8x512x512) (ix3 b i p) 2 q = ix3 b i q := by
  funext a
  match a with
  | ⟨0, _⟩ => rfl
  | ⟨1, _⟩ => rfl
  | ⟨2, _⟩ => rfl

omit h in
/-- The sort's k-th entry, from the k-th position in order. -/
theorem topK_at (X : FVec Ideal S8x512x512 .f32) (b : Fin 8) (i : Fin 512) (k : Fin 30) (n : Fin 512)
    (hn : sortedFrom (fun p q : Fin 512 => FloatOps.cmpfTotal (F := Ideal) (φ := .f32) .gt (X (ix3 b i p)) (X (ix3 b i q)) == 1#1)
      ⟨k.val, by omega⟩ = n) :
    (Host.topK S8x512x30 2 (FloatOps.cmpfTotal (F := Ideal) (φ := .f32) .gt) X sliceFits_S8x512x512_S8x512x30).1 (ix3 b i k) = X (ix3 b i n)
    ∧ (Host.topK S8x512x30 2 (FloatOps.cmpfTotal (F := Ideal) (φ := .f32) .gt) X sliceFits_S8x512x512_S8x512x30).2 (ix3 b i k) = BitVec.ofNat 32 n := by
  have key : ∀ J : S8x512x512.Idx, J = ix3 b i ⟨k.val, by omega⟩ →
      Shape.Idx.along J (2 : Fin 3) (sortedFrom (fun p q : Fin 512 => FloatOps.cmpfTotal (F := Ideal) (φ := .f32) .gt
        (X (Shape.Idx.along J (2 : Fin 3) p)) (X (Shape.Idx.along J (2 : Fin 3) q)) == 1#1) (J 2)) = ix3 b i n := by
    intro J hJ
    subst hJ
    simp only [along_ix3]
    exact (along_ix3 b i _ _).trans (congrArg (ix3 b i) hn)
  constructor
  · refine congrArg X (key _ ?_)
    funext a
    match a with
    | ⟨0, _⟩ => exact Fin.ext (Nat.zero_add _)
    | ⟨1, _⟩ => exact Fin.ext (Nat.zero_add _)
    | ⟨2, _⟩ => exact Fin.ext (Nat.zero_add _)
  · refine congrArg (fun z : S8x512x512.Idx => BitVec.ofNat 32 (z 2).val) (key _ ?_)
    funext a
    match a with
    | ⟨0, _⟩ => exact Fin.ext (Nat.zero_add _)
    | ⟨1, _⟩ => exact Fin.ext (Nat.zero_add _)
    | ⟨2, _⟩ => exact Fin.ext (Nat.zero_add _)

/-- The reference's second result. -/
theorem indices_at (b : Fin 8) (i : Fin 512) (k : Fin 30) :
    val_main_indices (F := Ideal) x0 x1 (ix3 b i k) = BitVec.ofNat 32 (near x0 b i k) :=
  (topK_at (val_main_v23 (F := Ideal) x0 x1) b i k _ (place h b i k)).2

/-- The reference's neighbour distances. -/
theorem values_at (b : Fin 8) (i : Fin 512) (k : Fin 30) :
    val_main_v24 (F := Ideal) x0 x1 (ix3 b i k) = dists x0 b i (near x0 b i k) := by
  rw [val_main_v24_apply]
  have e : val_main_values (F := Ideal) x0 x1 (ix3 b i k) = val_main_v23 (F := Ideal) x0 x1 (ix3 b i (near x0 b i k)) :=
    (topK_at (val_main_v23 (F := Ideal) x0 x1) b i k _ (place h b i k)).1
  rw [e, val_main_v23_apply, v22_at h]
  exact neg_neg _

end Cert.Proof.Ref
end
-- ==== Proof.RefLayer.lean ====
/- The reference's embedding and layer normalisation, read at an entry. -/
module

public import proofs.«01_k».proof.Proof.RefTop
public import proofs.«01_k».proof.Proof.Spec

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Spec

variable (x0 : FVec Ideal S8x512x3 .f32) (x1 : FVec Ideal S8x512 .f32) (x2 x3 : IVec S8x512 32)
  (x4 : FVec Ideal S16x66 .f32) (x5 : FVec Ideal S16 .f32) (x6 : FVec Ideal S128x163 .f32) (x7 x8 : FVec Ideal S128 .f32)
  (b : Fin 8) (i : Fin 512) (k : Fin 30)

/-- Taking away the word 0 changes nothing. -/
theorem sub_zero_word (a : EReal) : a - FloatOps.sitofp (F := Ideal) FTy.f32 (0#32) = a := by
  show a - (((0#32 : BitVec 32).toInt : ℝ) : EReal) = a
  simp

/-- The number of features is positive. -/
theorem above_zero : (0 : EReal) < Ideal.ofBits .f32 1124073472#32 := by
  simp [Ideal.ofBits, Ideal.ieee, -EReal.coe_mul]

/-- The layer norm at the end. -/
theorem v486_at (f : Fin 128) : val_main_v541 (F := Ideal) x0 x1 x2 x3 x4 x5 x6 x7 x8 (ix4 b i k f) =
    layerNorm (fun f => val_main_v523 (F := Ideal) x0 x1 x2 x3 x4 x5 x6 (ix4 b i k f)) (fun f => x7 (ix1 f)) (fun f => x8 (ix1 f)) f := by
  unfold val_main_v541 val_main_v538 val_main_v535 val_main_v530 val_main_v529 val_main_v527 val_main_v525 val_main_v524 val_main_cst_123 val_main_v526 val_main_cst_124 val_main_v534 val_main_v533 val_main_v532 val_main_v528 val_main_call10_v13 val_main_call10_v12 val_main_call10_v10 val_main_call10_v9 val_main_call10_v6 val_main_call10_v5 val_main_call10_v4 val_main_call10_v3 val_main_call10_v1 val_main_call10_v0 val_main_call10_cst val_main_call10_v2 val_main_call10_cst_0 val_main_call10_cst_2 val_main_call10_v11 val_main_call10_v8 val_main_call10_cst_1 val_main_call10_v7 val_main_c_125 val_main_call10_cst_3 val_main_call10_call0_v1 val_main_call10_call0_v0 val_main_call10_cst_4 val_main_v531 val_main_cst_126 val_main_v537 val_main_v536 val_main_v540 val_main_v539
  generalize val_main_v523 (F := Ideal) x0 x1 x2 x3 x4 x5 x6 = Y
  pointwise []
  unfold layerNorm mean
  simp only [sub_zero_word, if_pos above_zero]

/-- The embedding. -/
theorem v468_at (f : Fin 128) : val_main_v523 (F := Ideal) x0 x1 x2 x3 x4 x5 x6 (ix4 b i k f) =
    embed (fun c => val_main_v521 (F := Ideal) x0 x1 x2 x3 x4 x5 (ix4 b i k c)) (fun c f => x6 (ix2 f c)) f := by
  unfold val_main_v523 val_main_v522
  generalize val_main_v521 (F := Ideal) x0 x1 x2 x3 x4 x5 = Y
  pointwise []
  rfl

/-- The three groups of features. -/
theorem v466_at (f : Fin 163) : val_main_v521 (F := Ideal) x0 x1 x2 x3 x4 x5 (ix4 b i k f) =
    cat (fun a => val_main_v520 (F := Ideal) x0 x1 x2 x3 x4 x5 (ix4 b i k a)) (fun a => val_main_v73 (F := Ideal) x0 x1 (ix4 b i k a))
      (fun a => val_main_v490 (F := Ideal) x0 x1 (ix4 b i k a)) f := by
  unfold val_main_v521
  generalize val_main_v520 (F := Ideal) x0 x1 x2 x3 x4 x5 = Y
  generalize val_main_v490 (F := Ideal) x0 x1 = Z
  generalize val_main_v73 (F := Ideal) x0 x1 = W
  pointwise []
  rfl

end Cert.Proof.Ref
end
-- ==== Proof.RefGather.lean ====
/- The reference's gathers along one axis, read at an entry. -/
module

public import proofs.«01_k».proof.Proof.Gen.ReferenceIdeal.Read
public import proofs.«01_k».proof.Proof.RoundsRead

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Rounds (toInt_small)

/-- The clamp a gather puts on a start that is in range changes nothing. -/
theorem clamp_word (n : Fin 512) : min (BitVec.ofNat 32 n.val).toInt.toNat (512 - 1) = n.val := by
  have := n.isLt
  rw [toInt_small n.val (by omega)]
  omega

/-- Gathering along the last of four axes. -/
theorem gather4_apply {α : Type} (x : S8x8x512x512.Idx → α) (idx : IVec S8x8x512x30x1 32) (p b : Fin 8) (i : Fin 512) (k : Fin 30) (n : Fin 512)
    (hn : idx (ix5 p b i k 0) = BitVec.ofNat 32 n) :
    Host.gather gather_S8x8x512x512_S8x8x512x30x1_S8x8x512x30_n_3_012_012_3_4_1111 x idx (ix4 p b i k) = x (ix4 p b i n) := by
  refine congrArg x (funext fun a => Fin.ext ?_)
  match a with
  | ⟨0, _⟩ => show 0 + p.val + 0 = p.val; omega
  | ⟨1, _⟩ => show 0 + b.val + 0 = b.val; omega
  | ⟨2, _⟩ => show 0 + i.val + 0 = i.val; omega
  | ⟨3, _⟩ =>
    refine Eq.trans ?_ (clamp_word n)
    rw [← hn]
    refine congrArg (fun z => min (BitVec.toInt (idx z)).toNat (512 - 1)) (funext fun a => ?_)
    fin_cases a <;> rfl

/-- Gathering along the last of three axes. -/
theorem gather3_apply {α : Type} (x : S8x512x512.Idx → α) (idx : IVec S8x512x30x1 32) (b : Fin 8) (i : Fin 512) (k : Fin 30) (n : Fin 512)
    (hn : idx (ix4 b i k 0) = BitVec.ofNat 32 n) :
    Host.gather gather_S8x512x512_S8x512x30x1_S8x512x30_n_2_01_01_2_3_111 x idx (ix3 b i k) = x (ix3 b i n) := by
  refine congrArg x (funext fun a => Fin.ext ?_)
  match a with
  | ⟨0, _⟩ => show 0 + b.val + 0 = b.val; omega
  | ⟨1, _⟩ => show 0 + i.val + 0 = i.val; omega
  | ⟨2, _⟩ =>
    refine Eq.trans ?_ (clamp_word n)
    rw [← hn]
    refine congrArg (fun z => min (BitVec.toInt (idx z)).toNat (512 - 1)) (funext fun a => ?_)
    fin_cases a <;> rfl

/-- Gathering whole rows. -/
theorem gatherRows_apply {α : Type} (x : S8x512x3.Idx → α) (idx : IVec S8x15360x1 32) (b : Fin 8) (e : Fin 15360) (c : Fin 3) (n : Fin 512)
    (hn : idx (ix3 b e 0) = BitVec.ofNat 32 n) :
    Host.gather gather_S8x512x3_S8x15360x1_S8x15360x3_2_1_0_0_1_2_113 x idx (ix3 b e c) = x (ix3 b n c) := by
  refine congrArg x (funext fun a => Fin.ext ?_)
  match a with
  | ⟨0, _⟩ => show 0 + b.val + 0 = b.val; omega
  | ⟨1, _⟩ =>
    refine Eq.trans ?_ (clamp_word n)
    rw [← hn]
    refine congrArg (fun z => min (BitVec.toInt (idx z)).toNat (512 - 1)) (funext fun a => ?_)
    fin_cases a <;> rfl
  | ⟨2, _⟩ =>
    show 0 + 0 + c.val = c.val
    omega

end Cert.Proof.Ref
end
-- ==== Proof.RefDist.lean ====
/- The reference's nine distances of an edge and their radial functions. -/
module

public import proofs.«01_k».proof.Proof.RefTop
public import proofs.«01_k».proof.Proof.RefGather
public import proofs.«01_k».proof.Proof.Spec

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Spec

variable (x0 : FVec Ideal S8x512x3 .f32) (x1 : FVec Ideal S8x512 .f32)
  (b : Fin 8) (i : Fin 512) (k : Fin 30)

/-- The residue before, with zeros at the start. -/
def before (x0 : FVec Ideal S8x512x3 .f32) (b : Fin 8) (i : Fin 512) (c : Fin 3) : EReal :=
  if h : 1 ≤ i.val then x0 (ix3 b ⟨i.val - 1, by omega⟩ c) else 0

/-- The residue after, with zeros at the end. -/
def after (x0 : FVec Ideal S8x512x3 .f32) (b : Fin 8) (i : Fin 512) (c : Fin 3) : EReal :=
  if h : i.val < 511 then x0 (ix3 b ⟨i.val + 1, by omega⟩ c) else 0

/-- The first end of each of the eight further distances. -/
def starts (x0 : FVec Ideal S8x512x3 .f32) (b : Fin 8) (i : Fin 512) : Fin 8 → Fin 3 → EReal :=
  ![before x0 b i, after x0 b i, before x0 b i, before x0 b i, pt x0 b i, pt x0 b i, after x0 b i, after x0 b i]

/-- The second end of each of the eight further distances. -/
def stops (x0 : FVec Ideal S8x512x3 .f32) (b : Fin 8) (i : Fin 512) : Fin 8 → Fin 3 → EReal :=
  ![before x0 b i, after x0 b i, pt x0 b i, after x0 b i, before x0 b i, after x0 b i, before x0 b i, pt x0 b i]

/-- The nine distances of an edge. -/
def edgeDist (x0 : FVec Ideal S8x512x3 .f32) (b : Fin 8) (i n : Fin 512) (p : Fin 9) : EReal :=
  if h : p.val < 1 then dists x0 b i n else pairDist (starts x0 b i ⟨p.val - 1, by omega⟩) (stops x0 b n ⟨p.val - 1, by omega⟩)

/-- The word 0 as a float is 0. -/
theorem zero_word : FloatOps.sitofp (F := Ideal) FTy.f32 (0#32) = 0 := by
  show (((0#32 : BitVec 32).toInt : ℝ) : EReal) = 0
  simp

/-- The reference's first shifted coordinates are the residue before. -/
theorem v26_at (j : Fin 3): val_main_v26 (F := Ideal) x0 (ix3 b i j) = before x0 b i j := by
  unfold val_main_v26 val_main_v25 val_main_call0_v0 val_main_c
  pointwise []
  unfold before
  by_cases h : 1 ≤ i.val
  · rw [dif_pos h, dif_pos ⟨h, by omega⟩]
  · rw [dif_neg h, dif_neg (fun h' => h h'.1)]
    exact zero_word

/-- Its second shifted coordinates are the residue after. -/
theorem v28_at (j : Fin 3): val_main_v28 (F := Ideal) x0 (ix3 b i j) = after x0 b i j := by
  unfold val_main_v28 val_main_v27 val_main_call1_v0 val_main_c_3
  pointwise []
  unfold after
  by_cases h : i.val < 511
  · rw [dif_pos h, dif_pos h]
    exact congrArg (fun q => x0 (ix3 b q j)) (Fin.ext (Nat.add_comm _ _))
  · rw [dif_neg h, dif_neg h]
    exact zero_word

/-- Its stacked left operands. -/
theorem v37_at (f : Fin 8) (j : Fin 3): val_main_v37 (F := Ideal) x0 (ix4 f b i j) = starts x0 b i f j := by
  have e1 := v26_at x0 b i j
  have e2 := v28_at x0 b i j
  unfold val_main_v37 val_main_v36 val_main_v35 val_main_v34 val_main_v33 val_main_v32 val_main_v31 val_main_v30 val_main_v29
  generalize val_main_v26 (F := Ideal) x0 = Y at e1
  generalize val_main_v28 (F := Ideal) x0 = Z at e2
  pointwise []
  rcases f with ⟨f, hf⟩
  interval_cases f
  · exact e1
  · exact e2
  · exact e1
  · exact e1
  · rfl
  · rfl
  · exact e2
  · exact e2

/-- Its stacked right operands. -/
theorem v46_at (f : Fin 8) (j : Fin 3): val_main_v46 (F := Ideal) x0 (ix4 f b i j) = stops x0 b i f j := by
  have e1 := v26_at x0 b i j
  have e2 := v28_at x0 b i j
  unfold val_main_v46 val_main_v45 val_main_v44 val_main_v43 val_main_v42 val_main_v41 val_main_v40 val_main_v39 val_main_v38
  generalize val_main_v26 (F := Ideal) x0 = Y at e1
  generalize val_main_v28 (F := Ideal) x0 = Z at e2
  pointwise []
  rcases f with ⟨f, hf⟩
  interval_cases f
  · exact e1
  · exact e2
  · rfl
  · exact e2
  · exact e1
  · exact e2
  · exact e1
  · rfl

/-- Its pair distances. -/
theorem v56_at (f : Fin 8) (j : Fin 512): val_main_v56 (F := Ideal) x0 (ix4 f b i j) = pairDist (starts x0 b i f) (stops x0 b j f) := by
  have e1 := v37_at x0 b i f
  have e2 := v46_at x0 b j f
  unfold val_main_v56 val_main_v55 val_main_v54 val_main_v53 val_main_v52 val_main_v51 val_main_v50 val_main_v49 val_main_v48 val_main_v47 val_main_cst_5 val_main_cst_4
  generalize val_main_v37 (F := Ideal) x0 = Y at e1
  generalize val_main_v46 (F := Ideal) x0 = Z at e2
  pointwise []
  rw [Fin.sum_univ_three, e1, e1, e1, e2, e2, e2]
  rfl

/-- Counting from the end is never taken: the positions are not negative. -/
theorem word_kept : ∀ n : Fin 512, Scalar.select (IntOp.cmpi .slt (BitVec.ofNat 32 n.val) (0#32)) (IntOp.addi (BitVec.ofNat 32 n.val) (512#32))
    (BitVec.ofNat 32 n.val) = BitVec.ofNat 32 n.val := by decide +kernel

variable {x0 x1} {x2 x3 : IVec S8x512 32} (h : SetUp x0 x1 x2 x3)
include h

/-- The indices repeated for the eight pairs. -/
theorem v57_idx (p : Fin 8) : val_main_v57 (F := Ideal) x0 x1 (ix4 p b i k) = BitVec.ofNat 32 (near x0 b i k).val := by
  have e := indices_at h b i k
  unfold val_main_v57
  generalize val_main_indices (F := Ideal) x0 x1 = Y at e
  pointwise []
  exact e

/-- The indices with counting from the end resolved. -/
theorem call2_v4_idx (p : Fin 8) : val_main_call2_v4 (F := Ideal) x0 x1 (ix4 p b i k) = BitVec.ofNat 32 (near x0 b i k).val := by
  have e := v57_idx b i k h p
  unfold val_main_call2_v4 val_main_call2_v1 val_main_call2_v0 val_main_call2_c val_main_call2_v3 val_main_call2_v2 val_main_call2_c_0
  generalize val_main_v57 (F := Ideal) x0 x1 = Y at e
  pointwise []
  rw [e]
  exact word_kept _

/-- The same with a trailing unit axis. -/
theorem v58_idx (p : Fin 8) : val_main_call2_v5 (F := Ideal) x0 x1 (ix5 p b i k 0) = BitVec.ofNat 32 (near x0 b i k).val := by
  have e := call2_v4_idx b i k h p
  unfold val_main_call2_v5
  generalize val_main_call2_v4 (F := Ideal) x0 x1 = Y at e
  refine (shapeCast_apply Y _ _ (ix4 p b i k) ?_).trans e
  rw [Shape.rowMajor_val_four, Shape.rowMajor_val_five]
  show ((p.val * 8 + b.val) * 512 + i.val) * 30 + k.val = (((p.val * 8 + b.val) * 512 + i.val) * 30 + k.val) * 1 + 0
  omega

/-- The pair distances gathered at the neighbours. -/
theorem v58_at (p : Fin 8) : val_main_v58 (F := Ideal) x0 x1 (ix4 p b i k) = pairDist (starts x0 b i p) (stops x0 b (near x0 b i k) p) := by
  unfold val_main_v58
  exact (gather4_apply _ _ p b i k _ (v58_idx b i k h p)).trans (v56_at x0 b i p _)

/-- The nine distances of an edge. -/
theorem v60_at (f : Fin 9) : val_main_v60 (F := Ideal) x0 x1 (ix4 f b i k) = edgeDist x0 b i (near x0 b i k) f := by
  have e1 := values_at h b i k
  have e2 := v58_at b i k h
  unfold val_main_v60 val_main_v59
  generalize val_main_v24 (F := Ideal) x0 x1 = Y at e1
  generalize val_main_v58 (F := Ideal) x0 x1 = Z at e2
  pointwise []
  unfold edgeDist
  split_ifs with hf
  all_goals first | exact e1 | exact e2 _

omit h in
/-- The literal 15. -/
theorem fifteen : Ideal.ofBits .f32 1097859072#32 = ((15 : ℝ) : EReal) := by
  simp [Ideal.ofBits, Ideal.ieee, -EReal.coe_mul]
  norm_num

omit h in
/-- The literal 2. -/
theorem two : Ideal.ofBits .f32 1073741824#32 = ((2 : ℝ) : EReal) := by
  simp [Ideal.ofBits, Ideal.ieee, -EReal.coe_mul]
  norm_num

omit h in
/-- The literal 22. -/
theorem twenty_two : Ideal.ofBits .f32 1102053376#32 = ((22 : ℝ) : EReal) := by
  simp [Ideal.ofBits, Ideal.ieee, -EReal.coe_mul]
  norm_num

omit h in
/-- Small words read as numbers. -/
theorem count : ∀ a : Fin 16, (BitVec.ofNat 32 a.val).toInt = (a.val : ℤ) := by decide +kernel

omit h in
/-- The centres are evenly spaced from 2 to 22. -/
theorem v62_at (a : Fin 16) : val_main_v62 (F := Ideal) (ix1 a) = centre a.val := by
  unfold val_main_v62 val_main_call3_v15 val_main_call3_v11 val_main_call3_v10 val_main_call3_v7 val_main_call3_v0 val_main_cst_6 val_main_call3_v9 val_main_call3_v8 val_main_call3_cst_1 val_main_call3_v14 val_main_call3_v6 val_main_call3_v4 val_main_call3_v5 val_main_call3_cst_0 val_main_call3_v13 val_main_call3_v12 val_main_call3_v1 val_main_cst_7 val_main_call3_v16
  pointwise []
  show (if h : a.val < 15 then Ideal.ofBits .f32 1073741824#32 * (1 - Ideal.div (((BitVec.ofNat 32 a.val).toInt : ℝ) : EReal) (Ideal.ofBits .f32 1097859072#32))
      + Ideal.ofBits .f32 1102053376#32 * Ideal.div (((BitVec.ofNat 32 a.val).toInt : ℝ) : EReal) (Ideal.ofBits .f32 1097859072#32)
    else Ideal.ofBits .f32 1102053376#32) = _
  rw [count, fifteen, two, twenty_two, Ideal.div_coe (by norm_num), ← EReal.coe_one]
  simp only [← EReal.coe_mul, ← EReal.coe_sub, ← EReal.coe_add]
  unfold centre
  split_ifs with ha
  · refine congrArg _ ?_
    push_cast
    ring
  · have : a.val = 15 := by omega
    rw [this]
    refine congrArg _ ?_
    norm_num

/-- The radial features of an edge. -/
theorem v73_at (f : Fin 144) : val_main_v73 (F := Ideal) x0 x1 (ix4 b i k f) = radials (edgeDist x0 b i (near x0 b i k)) f := by
  have e1 := v60_at b i k h
  have e2 := v62_at
  unfold val_main_v73 val_main_v72 val_main_v71 val_main_v70 val_main_v69 val_main_v68 val_main_v67 val_main_v66 val_main_v65 val_main_v64 val_main_v63 val_main_v61 val_main_cst_8
  generalize val_main_v60 (F := Ideal) x0 x1 = Y at e1
  generalize val_main_v62 (F := Ideal) = Z at e2
  pointwise []
  unfold radials radial
  rw [e1, e2, zero_sub]

end Cert.Proof.Ref
end
-- ==== Proof.RefPos.lean ====
/- The reference's position feature of an edge. -/
module

public import proofs.«01_k».proof.Proof.RefTop
public import proofs.«01_k».proof.Proof.RefGather
public import proofs.«01_k».proof.Proof.Spec

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Spec

variable (b : Fin 8) (i : Fin 512) (k : Fin 30)

/-- Counting from the end is never taken: the positions are not negative. -/
theorem word_stays : ∀ n : Fin 512, Scalar.select (IntOp.cmpi .slt (BitVec.ofNat 32 n.val) (0#32)) (IntOp.addi (BitVec.ofNat 32 n.val) (512#32))
    (BitVec.ofNat 32 n.val) = BitVec.ofNat 32 n.val := by decide +kernel

variable {x0 : FVec Ideal S8x512x3 .f32} {x1 : FVec Ideal S8x512 .f32} {x2 x3 : IVec S8x512 32} (h : SetUp x0 x1 x2 x3)
include h

/-- The indices the offsets are gathered at. -/
theorem v441_idx : val_main_call6_v5 (F := Ideal) x0 x1 (ix4 b i k 0) = BitVec.ofNat 32 (near x0 b i k).val := by
  have e := indices_at h b i k
  unfold val_main_call6_v5 val_main_call6_v4 val_main_call6_v1 val_main_call6_v0 val_main_call6_c val_main_call6_v3 val_main_call6_v2 val_main_call6_c_0
  generalize val_main_indices (F := Ideal) x0 x1 = Y at e
  pointwise []
  rw [e]
  exact word_stays _

/-- The indices the chain bits are gathered at. -/
theorem v450_idx : val_main_call7_v5 (F := Ideal) x0 x1 (ix4 b i k 0) = BitVec.ofNat 32 (near x0 b i k).val := by
  have e := indices_at h b i k
  unfold val_main_call7_v5 val_main_call7_v4 val_main_call7_v1 val_main_call7_v0 val_main_call7_c val_main_call7_v3 val_main_call7_v2 val_main_call7_c_0
  generalize val_main_indices (F := Ideal) x0 x1 = Y at e
  pointwise []
  rw [e]
  exact word_stays _

omit h in
/-- A common summand cancels in a difference. -/
theorem shifted (u v w : BitVec 32) : u + v - (u + w) = v - w := by
  bv_omega

omit h in
/-- A word less itself is zero. -/
theorem same (u : BitVec 32) : u - u = 0#32 := by simp

/-- The offset of two residues is the difference of their positions. -/
theorem v440_at (n : Fin 512) : val_main_v495 (F := Ideal) x2 (ix3 b i n) = BitVec.ofNat 32 i.val - BitVec.ofNat 32 n.val := by
  unfold val_main_v495 val_main_v493 val_main_v491 val_main_v494 val_main_v492
  pointwise []
  rw [h.res b i, h.res b n]
  exact shifted _ _ _

/-- Two residues of a row are of one chain. -/
theorem v449_at (n : Fin 512) : val_main_v504 (F := Ideal) x3 (ix3 b i n) = 1#32 := by
  unfold val_main_v504 val_main_v503 val_main_v501 val_main_v499 val_main_v497 val_main_v500 val_main_v498 val_main_v502 val_main_c_117
  pointwise []
  rw [h.chain b i, h.chain b n]
  show BitVec.setWidth 32 (IntOp.cmpi .eq (x3 (ix2 b 0) - x3 (ix2 b 0)) 0#32) = 1#32
  rw [same]
  rfl

/-- The offset of an edge. -/
theorem v441_at : val_main_v496 (F := Ideal) x0 x1 x2 (ix3 b i k) = BitVec.ofNat 32 i.val - BitVec.ofNat 32 (near x0 b i k).val := by
  unfold val_main_v496
  exact (gather3_apply _ _ b i k _ (v441_idx b i k h)).trans (v440_at b i h _)

/-- The chain bit of an edge. -/
theorem v450_at : val_main_v505 (F := Ideal) x0 x1 x3 (ix3 b i k) = 1#32 := by
  unfold val_main_v505
  exact (gather3_apply _ _ b i k _ (v450_idx b i k h)).trans (v449_at b i h _)

omit h in
/-- Where the chain bit is one, the clipped offset stays. -/
theorem kept (w : BitVec 32) : w * 1#32 + (1#32 - 1#32) * 65#32 = w := by simp

/-- The clipped offset of an edge. -/
theorem v459_at : val_main_v514 (F := Ideal) x0 x1 x2 x3 (ix3 b i k) = clip (BitVec.ofNat 32 i.val - BitVec.ofNat 32 (near x0 b i k).val) := by
  have e1 := v441_at b i k h
  have e2 := v450_at b i k h
  unfold val_main_v514 val_main_v509 val_main_v508 val_main_call8_v4 val_main_call8_v3 val_main_c_120 val_main_call8_v2 val_main_call8_v1 val_main_call8_v0 val_main_c_119 val_main_v507 val_main_v506 val_main_c_118 val_main_v513 val_main_v511 val_main_v510 val_main_c_121 val_main_v512 val_main_c_122
  generalize val_main_v496 (F := Ideal) x0 x1 x2 = Y at e1
  generalize val_main_v505 (F := Ideal) x0 x1 x3 = Z at e2
  pointwise []
  rw [e1, e2]
  show IntOp.minsi (64#32) (IntOp.maxsi (0#32) (_ + 32#32)) * 1#32 + (1#32 - 1#32) * 65#32 = _
  exact kept _

omit h in
/-- A comparison of words, as a float. -/
theorem bit_real (w w' : BitVec 32) : FloatOps.uitofp (F := Ideal) FTy.f32 (IntOp.cmpi .eq w w') = if w' = w then (1 : EReal) else 0 := by
  show (((IntOp.cmpi CmpIPredicate.eq w w').toNat : ℝ) : EReal) = _
  by_cases e : w' = w
  · subst e
    simp [IntOp.cmpi]
  · have hb : (w == w') = false := by simpa using fun h => e h.symm
    simp [IntOp.cmpi, hb, e]

/-- The positional features of an edge. -/
theorem v465_at (x4 : FVec Ideal S16x66 .f32) (x5 : FVec Ideal S16 .f32) (a : Fin 16) : val_main_v520 (F := Ideal) x0 x1 x2 x3 x4 x5 (ix4 b i k a) =
    position (clip (BitVec.ofNat 32 i.val - BitVec.ofNat 32 (near x0 b i k).val)) (fun c a => x4 (ix2 a c)) (fun a => x5 (ix1 a)) a := by
  have e := v459_at b i k h
  unfold val_main_v520 val_main_v517 val_main_v515 val_main_call9_v4 val_main_call9_v2 val_main_call9_v0 val_main_call9_v3 val_main_call9_v1 val_main_v516 val_main_v519 val_main_v518
  generalize val_main_v514 (F := Ideal) x0 x1 x2 x3 = Y at e
  pointwise []
  unfold position
  rw [e]
  simp only [bit_real]

end Cert.Proof.Ref
end
-- ==== Proof.ShRef.lean ====
/- The reference's harmonics of a residue with real coordinates. -/
module

public import proofs.«01_k».proof.Proof.ShLit
public import proofs.«01_k».proof.Proof.Gen.ReferenceIdeal.Read
public import Idealize.ShloMosaic.Lib.Pointwise

@[expose] public section

set_option maxRecDepth 16384

noncomputable section

namespace Cert.Proof.Sh

open Cert.ReferenceIdeal Cert.ReferenceIdeal.Gen Cert.ReferenceIdeal.Read
open Idealize.ShloMosaic Idealize.ShloMosaic.TcCoe

/-- The prefactor of an order, from π and the ratio of two factorials. -/
def pref (n a b : ℝ) : ℝ := Real.sqrt (n * (1 / (4 * Real.pi))) * Real.sqrt (a * (1 / b))

/-- The fourth power of a prefactor has no roots left. -/
theorem pref4 (n a b : ℝ) (hn : 0 ≤ n) (ha : 0 ≤ a) (hb : 0 < b) :
    pref n a b * pref n a b * pref n a b * pref n a b = q ((n / 4) * (n / 4) * ((a / b) * (a / b))) := by
  have h1 : Real.sqrt (n * (1 / (4 * Real.pi))) * Real.sqrt (n * (1 / (4 * Real.pi))) = n * (1 / (4 * Real.pi)) :=
    Real.mul_self_sqrt (mul_nonneg hn (by have := Real.pi_pos; positivity))
  have h2 : Real.sqrt (a * (1 / b)) * Real.sqrt (a * (1 / b)) = a * (1 / b) := Real.mul_self_sqrt (mul_nonneg ha (by positivity))
  unfold pref q
  generalize Real.sqrt (n * (1 / (4 * Real.pi))) = u at h1
  generalize Real.sqrt (a * (1 / b)) = v at h2
  have e : u * v * (u * v) * (u * v) * (u * v) = (u * u) * (u * u) * ((v * v) * (v * v)) := by ring
  rw [e, h1, h2]
  have := Real.pi_ne_zero
  field_simp
  try ring

/-- The inverse cosine of minus one is pi. -/
theorem acos_neg_one : Ideal.acos (Ideal.ofBits .f32 3212836864#32) = (Real.pi : EReal) := by
  rw [lit_m1, Ideal.acos_coe, if_pos ⟨le_refl _, by norm_num⟩, Real.arccos_neg_one]

/-- The reference's prefactor is the real one. -/
theorem prefactor (n' a' b' : EReal) (n a b : ℝ) (hn : n' = n) (ha : a' = a) (hb : b' = b) (h0 : 0 ≤ n ∧ 0 ≤ a ∧ 0 < b) :
    Ideal.sqrt (Ideal.div n' (Ideal.ofBits .f32 1082130432#32 * Ideal.acos (Ideal.ofBits .f32 3212836864#32))) * Ideal.sqrt (Ideal.div a' b')
      = ((pref n a b : ℝ) : EReal) := by
  have hp := Real.pi_pos
  rw [acos_neg_one, lit_4, hn, ha, hb, ← EReal.coe_mul, Ideal.div_coe (by positivity), Ideal.div_coe h0.2.2.ne', ← EReal.coe_mul, ← EReal.coe_mul,
    sqrt_real _ (mul_nonneg h0.1 (by positivity)), sqrt_real _ (mul_nonneg h0.2.1 (by have := h0.2.2; positivity)), ← EReal.coe_mul]
  rfl

/-- One order's two squares: together they do not depend on the polar angle. -/
theorem step (A K P' M U T : EReal) (k P m φ θ : ℝ) (hk : K = k) (hP : P' = P) (hm : M = m) (hU : U = φ) (hT : T = θ)
    (Q d : ℝ) (hQ : k * k * k * k = Q) (hd : Real.cos (m * φ) = d) :
    A + K * Ideal.cos (M * U) * (K * P' * Ideal.cos (M * T)) * (K * Ideal.cos (M * U) * (K * P' * Ideal.cos (M * T)))
      + K * Ideal.cos (M * U) * (K * P' * Ideal.sin (M * T)) * (K * Ideal.cos (M * U) * (K * P' * Ideal.sin (M * T)))
      = A + ((Q * P * P * (d * d) : ℝ) : EReal) := by
  subst hQ hd
  rw [hk, hP, hm, hU, hT, add_assoc]
  simp only [← EReal.coe_mul, Ideal.cos_coe, Ideal.sin_coe, ← EReal.coe_add]
  have := Real.sin_sq_add_cos_sq (m * θ)
  refine congrArg (fun r : ℝ => A + (r : EReal)) ?_
  have e : Real.sin (m * θ) * Real.sin (m * θ) = 1 - Real.cos (m * θ) * Real.cos (m * θ) := by nlinarith [this]
  have e' : k * Real.cos (m * φ) * (k * P * Real.sin (m * θ)) * (k * Real.cos (m * φ) * (k * P * Real.sin (m * θ)))
    = k * Real.cos (m * φ) * (k * P) * (k * Real.cos (m * φ) * (k * P)) * (Real.sin (m * θ) * Real.sin (m * θ)) := by ring
  rw [e', e]
  ring

/-- The same at the order where the multiplier is one. -/
theorem step_one (A K P' U T : EReal) (k P φ θ : ℝ) (hk : K = k) (hP : P' = P) (hU : U = φ) (hT : T = θ)
    (Q d : ℝ) (hQ : k * k * k * k = Q) (hd : Real.cos (1 * φ) = d) :
    A + K * Ideal.cos U * (K * P' * Ideal.cos T) * (K * Ideal.cos U * (K * P' * Ideal.cos T))
      + K * Ideal.cos U * (K * P' * Ideal.sin T) * (K * Ideal.cos U * (K * P' * Ideal.sin T))
      = A + ((Q * P * P * (d * d) : ℝ) : EReal) := by
  have g := step A K P' 1 U T k P 1 φ θ hk hP one_real hU hT Q d hQ hd
  rwa [one_mul, one_mul] at g

/-- Order 0: the azimuth drops out. -/
theorem angle_0 (φ : ℝ) : Real.cos (0 * φ) = 1 := by rw [zero_mul, Real.cos_zero]
/-- The same at order zero, where the azimuth drops out. -/
theorem step_zero (A K P' U T : EReal) (k P φ θ : ℝ) (hk : K = k) (hP : P' = P) (hU : U = φ) (hT : T = θ)
    (Q : ℝ) (hQ : k * k * k * k = Q) :
    A + K * Ideal.cos (0 * U) * (K * P' * Ideal.cos (0 * T)) * (K * Ideal.cos (0 * U) * (K * P' * Ideal.cos (0 * T)))
      + K * Ideal.cos (0 * U) * (K * P' * Ideal.sin (0 * T)) * (K * Ideal.cos (0 * U) * (K * P' * Ideal.sin (0 * T)))
      = A + ((Q * P * P : ℝ) : EReal) := by
  have g := step A K P' 0 U T k P 0 φ θ hk hP zero_real hU hT Q 1 hQ (angle_0 φ)
  rwa [mul_one (1 : ℝ), mul_one (Q * P * P)] at g

/-- The same where the Legendre function is one. -/
theorem step_plain (A K U T : EReal) (k φ θ : ℝ) (hk : K = k) (hU : U = φ) (hT : T = θ) (Q : ℝ) (hQ : k * k * k * k = Q) :
    A + K * Ideal.cos (0 * U) * (K * Ideal.cos (0 * T)) * (K * Ideal.cos (0 * U) * (K * Ideal.cos (0 * T)))
      + K * Ideal.cos (0 * U) * (K * Ideal.sin (0 * T)) * (K * Ideal.cos (0 * U) * (K * Ideal.sin (0 * T)))
      = A + ((Q : ℝ) : EReal) := by
  have g := step_zero A K 1 U T k 1 φ θ hk one_real hU hT Q hQ
  rwa [mul_one K, mul_one Q, mul_one Q] at g

/-- Order 1: the cosine. -/
theorem angle_1 (φ : ℝ) : Real.cos (1 * φ) = Real.cos φ := by rw [one_mul]
/-- Order -1: the cosine. -/
theorem angle_m1 (φ : ℝ) : Real.cos (-1 * φ) = Real.cos φ := by rw [neg_one_mul, Real.cos_neg]
/-- Order 2: the double angle. -/
theorem angle_2 (φ : ℝ) : Real.cos (2 * φ) = 2 * Real.cos φ * Real.cos φ - 1 := by
  rw [Real.cos_two_mul]
  ring
/-- Order -2: the double angle. -/
theorem angle_m2 (φ : ℝ) : Real.cos (-2 * φ) = 2 * Real.cos φ * Real.cos φ - 1 := by
  rw [neg_mul, Real.cos_neg, angle_2]

variable (x0 : FVec Ideal S8x512x3 .f32) (b : Fin 8) (i : Fin 512) (φ θ : ℝ)

/-- The cosine of the azimuth. -/
theorem cos_at (h85 : val_main_v85 (F := Ideal) x0 (ix2 b i) = (φ : EReal)) : val_main_v86 (F := Ideal) x0 (ix2 b i) = ((Real.cos φ : ℝ) : EReal) := by
  unfold val_main_v86
  generalize val_main_v85 (F := Ideal) x0 = U at h85
  pointwise []
  rw [h85, Ideal.cos_coe]

/-- The constant zero. -/
theorem zero_const : constant (F := Ideal) S_ FTy.f32 (0#32) ix0 = 0 := by
  pointwise []

variable (h85 : val_main_v85 (F := Ideal) x0 (ix2 b i) = (φ : EReal)) (h80 : val_main_v80 (F := Ideal) x0 (ix2 b i) = (θ : EReal))
include h85 h80

omit h85 h80 in
/-- The prefactor of degree 0 and order 0. -/
theorem pref_0p0 : val_main_v94 (F := Ideal) ix0 = (pref 1 1 1 : ℝ) := by
  unfold val_main_v94 val_main_v91 val_main_v90 val_main_cst_13 val_main_v89 val_main_cst_12 val_main_v87 val_main_cst_10 val_main_v93 val_main_v92 val_main_cst_14 val_main_cst_15
  pointwise []
  exact prefactor _ _ _ 1 1 1 one_real one_real one_real (by norm_num)

/-- What degree 0 and order 0 add to their sum. -/
theorem acc_0p0 : val_main_v129 (F := Ideal) x0 (ix2 b i) = val_main_v88 (F := Ideal) (ix2 b i)
    + ((q (1 / 16) * (1) * (1) * ((1) * (1)) : ℝ) : EReal) := by
  have h86 := cos_at x0 b i φ h85
  have g0 := pref_0p0
  unfold val_main_v129 val_main_v127 val_main_v126 val_main_v119 val_main_v118 val_main_v117 val_main_v116 val_main_v115 val_main_v114 val_main_cst_21 val_main_v107 val_main_v103 val_main_v102 val_main_v106 val_main_v105 val_main_v104 val_main_cst_19 val_main_v128 val_main_v125 val_main_v124 val_main_v123 val_main_v122 val_main_v121 val_main_v120 val_main_cst_22 val_main_v113 val_main_v109 val_main_v108 val_main_v101 val_main_cst_18 val_main_v112 val_main_v111 val_main_v110 val_main_cst_20
  generalize val_main_v94 (F := Ideal) = K0 at g0
  generalize val_main_v80 (F := Ideal) x0 = T at h80
  generalize val_main_v85 (F := Ideal) x0 = U at h85
  generalize val_main_v86 (F := Ideal) x0 = C at h86
  generalize val_main_v88 (F := Ideal) = W
  pointwise []
  exact step_plain _ _ _ _ (pref 1 1 1) φ θ g0 h85 h80 (q (1 / 16)) ((pref4 1 1 1 (by norm_num) (by norm_num) (by norm_num)).trans (by norm_num))

omit h85 h80 in
/-- The prefactor of degree 1 and order -1. -/
theorem pref_1m1 : val_main_v136 (F := Ideal) ix0 = (pref 3 2 1 : ℝ) := by
  unfold val_main_v136 val_main_v133 val_main_v132 val_main_cst_25 val_main_v131 val_main_cst_24 val_main_v87 val_main_cst_10 val_main_v135 val_main_v134 val_main_cst_26 val_main_cst_27
  pointwise []
  exact prefactor _ _ _ 3 2 1 lit_3 lit_2 one_real (by norm_num)

/-- What degree 1 and order -1 add to their sum. -/
theorem acc_1m1 : val_main_v172 (F := Ideal) x0 (ix2 b i) = val_main_v130 (F := Ideal) (ix2 b i)
    + ((q (9 / 4) * (1 / 2 * root (Real.cos φ)) * (1 / 2 * root (Real.cos φ)) * ((Real.cos φ) * (Real.cos φ)) : ℝ) : EReal) := by
  have h86 := cos_at x0 b i φ h85
  have g0 := pref_1m1
  unfold val_main_v172 val_main_v170 val_main_v169 val_main_v162 val_main_v161 val_main_v160 val_main_v159 val_main_v158 val_main_v157 val_main_cst_33 val_main_v150 val_main_v146 val_main_v145 val_main_v149 val_main_v148 val_main_v147 val_main_cst_31 val_main_v171 val_main_v168 val_main_v167 val_main_v166 val_main_v165 val_main_v164 val_main_v163 val_main_cst_34 val_main_v156 val_main_v152 val_main_v151 val_main_v144 val_main_v143 val_main_cst_30 val_main_v142 val_main_v141 val_main_v139 val_main_v138 val_main_cst_28 val_main_v137 val_main_v140 val_main_cst_29 val_main_v155 val_main_v154 val_main_v153 val_main_cst_32
  generalize val_main_v136 (F := Ideal) = K0 at g0
  generalize val_main_v80 (F := Ideal) x0 = T at h80
  generalize val_main_v85 (F := Ideal) x0 = U at h85
  generalize val_main_v86 (F := Ideal) x0 = C at h86
  generalize val_main_v130 (F := Ideal) = W
  pointwise []
  refine step _ _ _ _ _ _ (pref 3 2 1) _ (-1) φ θ g0 ?_ lit_m1 h85 h80 (q (9 / 4)) (Real.cos φ) ?_ ?_
  · rw [h86, lit_1o2, root_coe, ← EReal.coe_mul]
  · exact (pref4 3 2 1 (by norm_num) (by norm_num) (by norm_num)).trans (by norm_num)
  · exact angle_m1 φ

omit h85 h80 in
/-- The prefactor of degree 1 and order 0. -/
theorem pref_1p0 : val_main_v178 (F := Ideal) ix0 = (pref 3 1 1 : ℝ) := by
  unfold val_main_v178 val_main_v175 val_main_v174 val_main_cst_36 val_main_v173 val_main_cst_35 val_main_v87 val_main_cst_10 val_main_v177 val_main_v176 val_main_cst_37 val_main_cst_38
  pointwise []
  exact prefactor _ _ _ 3 1 1 lit_3 one_real one_real (by norm_num)

/-- What degree 1 and order 0 add to their sum. -/
theorem acc_1p0 : val_main_v212 (F := Ideal) x0 (ix2 b i) = val_main_v172 (F := Ideal) x0 (ix2 b i)
    + ((q (9 / 16) * (Real.cos φ) * (Real.cos φ) * ((1) * (1)) : ℝ) : EReal) := by
  have h86 := cos_at x0 b i φ h85
  have g0 := pref_1p0
  unfold val_main_v212 val_main_v210 val_main_v209 val_main_v202 val_main_v201 val_main_v200 val_main_v199 val_main_v198 val_main_v197 val_main_cst_43 val_main_v190 val_main_v186 val_main_v185 val_main_v189 val_main_v188 val_main_v187 val_main_cst_41 val_main_v211 val_main_v208 val_main_v207 val_main_v206 val_main_v205 val_main_v204 val_main_v203 val_main_cst_44 val_main_v196 val_main_v192 val_main_v191 val_main_v195 val_main_v194 val_main_v193 val_main_cst_42
  generalize val_main_v178 (F := Ideal) = K0 at g0
  generalize val_main_v80 (F := Ideal) x0 = T at h80
  generalize val_main_v85 (F := Ideal) x0 = U at h85
  generalize val_main_v86 (F := Ideal) x0 = C at h86
  generalize val_main_v172 (F := Ideal) x0 = W
  pointwise []
  refine step_zero _ _ _ _ _ (pref 3 1 1) _ φ θ g0 ?_ h85 h80 (q (9 / 16)) ?_
  · exact h86
  · exact (pref4 3 1 1 (by norm_num) (by norm_num) (by norm_num)).trans (by norm_num)

omit h85 h80 in
/-- The prefactor of degree 1 and order 1. -/
theorem pref_1p1 : val_main_v218 (F := Ideal) ix0 = (pref 3 1 2 : ℝ) := by
  unfold val_main_v218 val_main_v215 val_main_v214 val_main_cst_46 val_main_v213 val_main_cst_45 val_main_v87 val_main_cst_10 val_main_v217 val_main_v216 val_main_cst_47 val_main_cst_48
  pointwise []
  exact prefactor _ _ _ 3 1 2 lit_3 one_real lit_2 (by norm_num)

/-- What degree 1 and order 1 add to their sum. -/
theorem acc_1p1 : val_main_v253 (F := Ideal) x0 (ix2 b i) = val_main_v212 (F := Ideal) x0 (ix2 b i)
    + ((q (9 / 64) * (0 - root (Real.cos φ)) * (0 - root (Real.cos φ)) * ((Real.cos φ) * (Real.cos φ)) : ℝ) : EReal) := by
  have h86 := cos_at x0 b i φ h85
  have g0 := pref_1p1
  unfold val_main_v253 val_main_v251 val_main_v250 val_main_v243 val_main_v242 val_main_v241 val_main_v240 val_main_v239 val_main_v238 val_main_cst_53 val_main_v231 val_main_v227 val_main_v226 val_main_v230 val_main_v229 val_main_v228 val_main_cst_51 val_main_v252 val_main_v249 val_main_v248 val_main_v247 val_main_v246 val_main_v245 val_main_v244 val_main_cst_54 val_main_v237 val_main_v233 val_main_v232 val_main_v225 val_main_v224 val_main_v223 val_main_v221 val_main_v220 val_main_cst_49 val_main_v219 val_main_v222 val_main_cst_50 val_main_v236 val_main_v235 val_main_v234 val_main_cst_52
  generalize val_main_v218 (F := Ideal) = K0 at g0
  generalize val_main_v80 (F := Ideal) x0 = T at h80
  generalize val_main_v85 (F := Ideal) x0 = U at h85
  generalize val_main_v86 (F := Ideal) x0 = C at h86
  generalize val_main_v212 (F := Ideal) x0 = W
  pointwise []
  refine step_one _ _ _ _ _ (pref 3 1 2) _ φ θ g0 ?_ h85 h80 (q (9 / 64)) (Real.cos φ) ?_ ?_
  · rw [h86, root_coe, zero_sub, EReal.coe_neg]
  · exact (pref4 3 1 2 (by norm_num) (by norm_num) (by norm_num)).trans (by norm_num)
  · exact angle_1 φ

omit h85 h80 in
/-- The prefactor of degree 2 and order -2. -/
theorem pref_2m2 : val_main_v260 (F := Ideal) ix0 = (pref 5 24 1 : ℝ) := by
  unfold val_main_v260 val_main_v257 val_main_v256 val_main_cst_57 val_main_v255 val_main_cst_56 val_main_v87 val_main_cst_10 val_main_v259 val_main_v258 val_main_cst_58 val_main_cst_59
  pointwise []
  exact prefactor _ _ _ 5 24 1 lit_5 lit_24 one_real (by norm_num)

/-- What degree 2 and order -2 add to their sum. -/
theorem acc_2m2 : val_main_v299 (F := Ideal) x0 (ix2 b i) = val_main_v254 (F := Ideal) (ix2 b i)
    + ((q (900) * ((1 - Real.cos φ * Real.cos φ) / 8) * ((1 - Real.cos φ * Real.cos φ) / 8) * ((2 * Real.cos φ * Real.cos φ - 1) * (2 * Real.cos φ * Real.cos φ - 1)) : ℝ) : EReal) := by
  have h86 := cos_at x0 b i φ h85
  have g0 := pref_2m2
  unfold val_main_v299 val_main_v297 val_main_v296 val_main_v289 val_main_v288 val_main_v287 val_main_v286 val_main_v285 val_main_v284 val_main_cst_66 val_main_v277 val_main_v273 val_main_v272 val_main_v276 val_main_v275 val_main_v274 val_main_cst_64 val_main_v298 val_main_v295 val_main_v294 val_main_v293 val_main_v292 val_main_v291 val_main_v290 val_main_cst_67 val_main_v283 val_main_v279 val_main_v278 val_main_v271 val_main_v269 val_main_v268 val_main_cst_62 val_main_v267 val_main_v270 val_main_cst_63 val_main_v282 val_main_v281 val_main_v280 val_main_cst_65
  generalize val_main_v260 (F := Ideal) = K0 at g0
  generalize val_main_v80 (F := Ideal) x0 = T at h80
  generalize val_main_v85 (F := Ideal) x0 = U at h85
  generalize val_main_v86 (F := Ideal) x0 = C at h86
  generalize val_main_v254 (F := Ideal) = W
  pointwise []
  refine step _ _ _ _ _ _ (pref 5 24 1) _ (-2) φ θ g0 ?_ lit_m2 h85 h80 (q (900)) (2 * Real.cos φ * Real.cos φ - 1) ?_ ?_
  · rw [h86, one_real, lit_8, ← EReal.coe_mul, ← EReal.coe_sub, Ideal.div_coe (by norm_num), ← EReal.coe_mul]
    exact congrArg _ (by ring)
  · exact (pref4 5 24 1 (by norm_num) (by norm_num) (by norm_num)).trans (by norm_num)
  · exact angle_m2 φ

omit h85 h80 in
/-- The prefactor of degree 2 and order -1. -/
theorem pref_2m1 : val_main_v305 (F := Ideal) ix0 = (pref 5 6 1 : ℝ) := by
  unfold val_main_v305 val_main_v302 val_main_v301 val_main_cst_69 val_main_v300 val_main_cst_68 val_main_v87 val_main_cst_10 val_main_v304 val_main_v303 val_main_cst_70 val_main_cst_71
  pointwise []
  exact prefactor _ _ _ 5 6 1 lit_5 lit_6 one_real (by norm_num)

/-- What degree 2 and order -1 add to their sum. -/
theorem acc_2m1 : val_main_v342 (F := Ideal) x0 (ix2 b i) = val_main_v299 (F := Ideal) x0 (ix2 b i)
    + ((q (225 / 4) * (1 / 2 * Real.cos φ * root (Real.cos φ)) * (1 / 2 * Real.cos φ * root (Real.cos φ)) * ((Real.cos φ) * (Real.cos φ)) : ℝ) : EReal) := by
  have h86 := cos_at x0 b i φ h85
  have g0 := pref_2m1
  unfold val_main_v342 val_main_v340 val_main_v339 val_main_v332 val_main_v331 val_main_v330 val_main_v329 val_main_v328 val_main_v327 val_main_cst_77 val_main_v320 val_main_v316 val_main_v315 val_main_v319 val_main_v318 val_main_v317 val_main_cst_75 val_main_v341 val_main_v338 val_main_v337 val_main_v336 val_main_v335 val_main_v334 val_main_v333 val_main_cst_78 val_main_v326 val_main_v322 val_main_v321 val_main_v314 val_main_v313 val_main_v312 val_main_cst_74 val_main_v311 val_main_v310 val_main_v308 val_main_v307 val_main_cst_72 val_main_v306 val_main_v309 val_main_cst_73 val_main_v325 val_main_v324 val_main_v323 val_main_cst_76
  generalize val_main_v305 (F := Ideal) = K0 at g0
  generalize val_main_v80 (F := Ideal) x0 = T at h80
  generalize val_main_v85 (F := Ideal) x0 = U at h85
  generalize val_main_v86 (F := Ideal) x0 = C at h86
  generalize val_main_v299 (F := Ideal) x0 = W
  pointwise []
  refine step _ _ _ _ _ _ (pref 5 6 1) _ (-1) φ θ g0 ?_ lit_m1 h85 h80 (q (225 / 4)) (Real.cos φ) ?_ ?_
  · rw [h86, lit_1o2, root_coe, ← EReal.coe_mul, ← EReal.coe_mul]
  · exact (pref4 5 6 1 (by norm_num) (by norm_num) (by norm_num)).trans (by norm_num)
  · exact angle_m1 φ

omit h85 h80 in
/-- The prefactor of degree 2 and order 0. -/
theorem pref_2p0 : val_main_v348 (F := Ideal) ix0 = (pref 5 2 2 : ℝ) := by
  unfold val_main_v348 val_main_v345 val_main_v344 val_main_cst_80 val_main_v343 val_main_cst_79 val_main_v87 val_main_cst_10 val_main_v347 val_main_v346 val_main_cst_81 val_main_cst_82
  pointwise []
  exact prefactor _ _ _ 5 2 2 lit_5 lit_2 lit_2 (by norm_num)

/-- What degree 2 and order 0 add to their sum. -/
theorem acc_2p0 : val_main_v389 (F := Ideal) x0 (ix2 b i) = val_main_v342 (F := Ideal) x0 (ix2 b i)
    + ((q (25 / 16) * (1 / 2 * (3 * Real.cos φ * Real.cos φ - 1)) * (1 / 2 * (3 * Real.cos φ * Real.cos φ - 1)) * ((1) * (1)) : ℝ) : EReal) := by
  have h86 := cos_at x0 b i φ h85
  have g0 := pref_2p0
  unfold val_main_v389 val_main_v387 val_main_v386 val_main_v379 val_main_v378 val_main_v377 val_main_v376 val_main_v375 val_main_v374 val_main_cst_90 val_main_v367 val_main_v363 val_main_v362 val_main_v366 val_main_v365 val_main_v364 val_main_cst_88 val_main_v388 val_main_v385 val_main_v384 val_main_v383 val_main_v382 val_main_v381 val_main_v380 val_main_cst_91 val_main_v373 val_main_v369 val_main_v368 val_main_v361 val_main_v360 val_main_cst_87 val_main_v359 val_main_v357 val_main_v356 val_main_v355 val_main_cst_85 val_main_v358 val_main_cst_86 val_main_v372 val_main_v371 val_main_v370 val_main_cst_89
  generalize val_main_v348 (F := Ideal) = K0 at g0
  generalize val_main_v80 (F := Ideal) x0 = T at h80
  generalize val_main_v85 (F := Ideal) x0 = U at h85
  generalize val_main_v86 (F := Ideal) x0 = C at h86
  generalize val_main_v342 (F := Ideal) x0 = W
  pointwise []
  refine step_zero _ _ _ _ _ (pref 5 2 2) _ φ θ g0 ?_ h85 h80 (q (25 / 16)) ?_
  · rw [h86, one_real, lit_1o2, lit_3, ← EReal.coe_mul, ← EReal.coe_mul, ← EReal.coe_sub, ← EReal.coe_mul]
  · exact (pref4 5 2 2 (by norm_num) (by norm_num) (by norm_num)).trans (by norm_num)

omit h85 h80 in
/-- The prefactor of degree 2 and order 1. -/
theorem pref_2p1 : val_main_v395 (F := Ideal) ix0 = (pref 5 1 6 : ℝ) := by
  unfold val_main_v395 val_main_v392 val_main_v391 val_main_cst_93 val_main_v390 val_main_cst_92 val_main_v87 val_main_cst_10 val_main_v394 val_main_v393 val_main_cst_94 val_main_cst_95
  pointwise []
  exact prefactor _ _ _ 5 1 6 lit_5 one_real lit_6 (by norm_num)

/-- What degree 2 and order 1 add to their sum. -/
theorem acc_2p1 : val_main_v432 (F := Ideal) x0 (ix2 b i) = val_main_v389 (F := Ideal) x0 (ix2 b i)
    + ((q (25 / 576) * (-3 * Real.cos φ * root (Real.cos φ)) * (-3 * Real.cos φ * root (Real.cos φ)) * ((Real.cos φ) * (Real.cos φ)) : ℝ) : EReal) := by
  have h86 := cos_at x0 b i φ h85
  have g0 := pref_2p1
  unfold val_main_v432 val_main_v430 val_main_v429 val_main_v422 val_main_v421 val_main_v420 val_main_v419 val_main_v418 val_main_v417 val_main_cst_101 val_main_v410 val_main_v406 val_main_v405 val_main_v409 val_main_v408 val_main_v407 val_main_cst_99 val_main_v431 val_main_v428 val_main_v427 val_main_v426 val_main_v425 val_main_v424 val_main_v423 val_main_cst_102 val_main_v416 val_main_v412 val_main_v411 val_main_v404 val_main_v403 val_main_v402 val_main_cst_98 val_main_v401 val_main_v400 val_main_v398 val_main_v397 val_main_cst_96 val_main_v396 val_main_v399 val_main_cst_97 val_main_v415 val_main_v414 val_main_v413 val_main_cst_100
  generalize val_main_v395 (F := Ideal) = K0 at g0
  generalize val_main_v80 (F := Ideal) x0 = T at h80
  generalize val_main_v85 (F := Ideal) x0 = U at h85
  generalize val_main_v86 (F := Ideal) x0 = C at h86
  generalize val_main_v389 (F := Ideal) x0 = W
  pointwise []
  refine step_one _ _ _ _ _ (pref 5 1 6) _ φ θ g0 ?_ h85 h80 (q (25 / 576)) (Real.cos φ) ?_ ?_
  · rw [h86, lit_m3, root_coe, ← EReal.coe_mul, ← EReal.coe_mul]
  · exact (pref4 5 1 6 (by norm_num) (by norm_num) (by norm_num)).trans (by norm_num)
  · exact angle_1 φ

omit h85 h80 in
/-- The prefactor of degree 2 and order 2. -/
theorem pref_2p2 : val_main_v438 (F := Ideal) ix0 = (pref 5 1 24 : ℝ) := by
  unfold val_main_v438 val_main_v435 val_main_v434 val_main_cst_104 val_main_v433 val_main_cst_103 val_main_v87 val_main_cst_10 val_main_v437 val_main_v436 val_main_cst_105 val_main_cst_106
  pointwise []
  exact prefactor _ _ _ 5 1 24 lit_5 one_real lit_24 (by norm_num)

/-- What degree 2 and order 2 add to their sum. -/
theorem acc_2p2 : val_main_v477 (F := Ideal) x0 (ix2 b i) = val_main_v432 (F := Ideal) x0 (ix2 b i)
    + ((q (25 / 9216) * (3 * (1 - Real.cos φ * Real.cos φ)) * (3 * (1 - Real.cos φ * Real.cos φ)) * ((2 * Real.cos φ * Real.cos φ - 1) * (2 * Real.cos φ * Real.cos φ - 1)) : ℝ) : EReal) := by
  have h86 := cos_at x0 b i φ h85
  have g0 := pref_2p2
  unfold val_main_v477 val_main_v475 val_main_v474 val_main_v467 val_main_v466 val_main_v465 val_main_v464 val_main_v463 val_main_v462 val_main_cst_113 val_main_v455 val_main_v451 val_main_v450 val_main_v454 val_main_v453 val_main_v452 val_main_cst_111 val_main_v476 val_main_v473 val_main_v472 val_main_v471 val_main_v470 val_main_v469 val_main_v468 val_main_cst_114 val_main_v461 val_main_v457 val_main_v456 val_main_v449 val_main_v448 val_main_cst_110 val_main_v447 val_main_v446 val_main_cst_109 val_main_v445 val_main_v460 val_main_v459 val_main_v458 val_main_cst_112
  generalize val_main_v438 (F := Ideal) = K0 at g0
  generalize val_main_v80 (F := Ideal) x0 = T at h80
  generalize val_main_v85 (F := Ideal) x0 = U at h85
  generalize val_main_v86 (F := Ideal) x0 = C at h86
  generalize val_main_v432 (F := Ideal) x0 = W
  pointwise []
  refine step _ _ _ _ _ _ (pref 5 1 24) _ 2 φ θ g0 ?_ lit_2 h85 h80 (q (25 / 9216)) (2 * Real.cos φ * Real.cos φ - 1) ?_ ?_
  · rw [h86, one_real, lit_3, ← EReal.coe_mul, ← EReal.coe_sub, ← EReal.coe_mul]
  · exact (pref4 5 1 24 (by norm_num) (by norm_num) (by norm_num)).trans (by norm_num)
  · exact angle_2 φ

omit h85 h80 in
/-- A sum starts from its first term. -/
theorem start (r : ℝ) : (0 : EReal) + (r : EReal) = (r : EReal) := zero_add _

/-- The degree-zero sum. -/
theorem coef0_at : val_main_v129 (F := Ideal) x0 (ix2 b i) = ((coef0 : ℝ) : EReal) := by
  rw [acc_0p0 x0 b i φ θ h85 h80]
  have e : val_main_v88 (F := Ideal) (ix2 b i) = 0 := by
    unfold val_main_v88 val_main_cst_11
    pointwise []
  rw [e, zero_add]
  unfold coef0
  exact congrArg _ (by ring)

/-- The degree-one sum. -/
theorem coef1_at : val_main_v253 (F := Ideal) x0 (ix2 b i) = ((coef1 (Real.cos φ) (root (Real.cos φ)) : ℝ) : EReal) := by
  rw [acc_1p1 x0 b i φ θ h85 h80, acc_1p0 x0 b i φ θ h85 h80, acc_1m1 x0 b i φ θ h85 h80]
  have e : val_main_v130 (F := Ideal) (ix2 b i) = 0 := by
    unfold val_main_v130 val_main_cst_23
    pointwise []
  rw [e, zero_add, ← EReal.coe_add, ← EReal.coe_add]
  unfold coef1
  exact congrArg _ (by ring)

/-- The degree-two sum. -/
theorem coef2_at : val_main_v477 (F := Ideal) x0 (ix2 b i) = ((coef2 (Real.cos φ) (root (Real.cos φ)) : ℝ) : EReal) := by
  rw [acc_2p2 x0 b i φ θ h85 h80, acc_2p1 x0 b i φ θ h85 h80, acc_2p0 x0 b i φ θ h85 h80, acc_2m1 x0 b i φ θ h85 h80, acc_2m2 x0 b i φ θ h85 h80]
  have e : val_main_v254 (F := Ideal) (ix2 b i) = 0 := by
    unfold val_main_v254 val_main_cst_55
    pointwise []
  rw [e, zero_add, ← EReal.coe_add, ← EReal.coe_add, ← EReal.coe_add, ← EReal.coe_add]
  unfold coef2
  exact congrArg _ (by ring)

omit h85 h80 in
/-- The reference's harmonics: zero at the origin. -/
theorem ref_at (l : Fin 3) (x y z : ℝ) (hx : x0 (ix3 b i 0) = (x : EReal)) (hy : x0 (ix3 b i 1) = (y : EReal)) (hz : x0 (ix3 b i 2) = (z : EReal)) :
    val_main_v486 (F := Ideal) x0 (ix3 b i l) = ((harm l x y z : ℝ) : EReal) := by
  have h75 : val_main_v75 (F := Ideal) x0 (ix2 b i) = ((x * x + y * y + z * z : ℝ) : EReal) := by
    unfold val_main_v75 val_main_v74 val_main_cst_9
    pointwise []
    rw [Fin.sum_univ_three, hx, hy, hz]
    simp only [← EReal.coe_mul, ← EReal.coe_add]
  have h76 : val_main_v76 (F := Ideal) x0 (ix2 b i) = ((Real.sqrt (x * x + y * y + z * z) : ℝ) : EReal) := by
    unfold val_main_v76
    generalize val_main_v75 (F := Ideal) x0 = Y at h75
    pointwise []
    rw [h75]
    exact sqrt_real _ (by nlinarith [mul_self_nonneg x, mul_self_nonneg y, mul_self_nonneg z])
  have h85 : val_main_v85 (F := Ideal) x0 (ix2 b i) = ((if 0 < x then Real.arctan (y / x) else if x < 0 then (if 0 ≤ y then Real.arctan (y / x) + Real.pi
      else Real.arctan (y / x) - Real.pi) else if 0 < y then Real.pi / 2 else if y < 0 then -(Real.pi / 2) else 0 : ℝ) : EReal) := by
    unfold val_main_v85 val_main_v82 val_main_v81 val_main_v84 val_main_v83
    pointwise []
    rw [hx, hy]
    rfl
  have hc := cos_atan2 x y
  generalize (if 0 < x then Real.arctan (y / x) else if x < 0 then (if 0 ≤ y then Real.arctan (y / x) + Real.pi
      else Real.arctan (y / x) - Real.pi) else if 0 < y then Real.pi / 2 else if y < 0 then -(Real.pi / 2) else 0 : ℝ) = φ at h85 hc
  by_cases h0 : Real.sqrt (x * x + y * y + z * z) = 0
  · unfold harm
    rw [if_pos h0]
    unfold val_main_v486 val_main_call4_v1 val_main_v485 val_main_v484 val_main_v483 val_main_cst_115 val_main_call4_v2 val_main_call4_v0 val_main_cst_116
    generalize val_main_v76 (F := Ideal) x0 = Y at h76
    generalize val_main_v482 (F := Ideal) x0 = Z
    pointwise []
    rw [h76, h0]
    simp
    exact zero_const
  · have h80 : ∃ θ : ℝ, val_main_v80 (F := Ideal) x0 (ix2 b i) = (θ : EReal) := by
      have hr := abs_le.mp (ratio_le x y z h0)
      refine ⟨Real.arccos (z * (1 / Real.sqrt (x * x + y * y + z * z))), ?_⟩
      unfold val_main_v80 val_main_v79 val_main_v78 val_main_v77
      generalize val_main_v76 (F := Ideal) x0 = Y at h76
      pointwise []
      rw [h76, hz, Ideal.div_coe h0, ← EReal.coe_mul, Ideal.acos_coe, if_pos hr]
    obtain ⟨θ, h80⟩ := h80
    have k0 := coef0_at x0 b i φ θ h85 h80
    have k1 := coef1_at x0 b i φ θ h85 h80
    have k2 := coef2_at x0 b i φ θ h85 h80
    unfold harm
    rw [if_neg h0]
    rw [hc] at k1 k2
    unfold val_main_v486 val_main_call4_v1 val_main_v485 val_main_v484 val_main_v483 val_main_cst_115 val_main_call4_v2 val_main_call4_v0 val_main_cst_116 val_main_v482 val_main_v481 val_main_v478 val_main_v479 val_main_v480
    generalize val_main_v76 (F := Ideal) x0 = Y at h76
    generalize val_main_v129 (F := Ideal) x0 = A0 at k0
    generalize val_main_v253 (F := Ideal) x0 = A1 at k1
    generalize val_main_v477 (F := Ideal) x0 = A2 at k2
    have hb : ¬ ((Real.sqrt (x * x + y * y + z * z) : ℝ) : EReal) = 0 := fun e => h0 (EReal.coe_eq_zero.mp e)
    match l with
    | ⟨0, _⟩ =>
      pointwise []
      rw [h76, k0, sqrt_real _ coef0_nonneg, if_neg hb]
      rfl
    | ⟨1, _⟩ =>
      pointwise []
      rw [h76, k1, sqrt_real _ (coef1_nonneg _ _), if_neg hb]
      rfl
    | ⟨2, _⟩ =>
      pointwise []
      rw [h76, k2, sqrt_real _ (coef2_nonneg _ _), if_neg hb]
      rfl

end Cert.Proof.Sh
end
-- ==== Proof.RefVal.lean ====
/- The formula both programs compute for an edge, and the reference's first result as that formula. -/
module

public import proofs.«01_k».proof.Proof.RefLayer
public import proofs.«01_k».proof.Proof.RefDist
public import proofs.«01_k».proof.Proof.RefPos
public import proofs.«01_k».proof.Proof.ShRef

@[expose] public section

set_option maxRecDepth 16384

noncomputable section

namespace Cert.Proof.Ref

open Cert.ReferenceIdeal Cert.ReferenceIdeal.Gen Cert.ReferenceIdeal.Read
open Idealize.ShloMosaic Idealize.ShloMosaic.TcCoe
open Cert.Proof.Spec

/-- The harmonics of a residue. -/
def harmAt (x0 : FVec Ideal S8x512x3 .f32) (b : Fin 8) (n : Fin 512) (l : Fin 3) : EReal :=
  ((Sh.harm l (x0 (ix3 b n 0)).toReal (x0 (ix3 b n 1)).toReal (x0 (ix3 b n 2)).toReal : ℝ) : EReal)

/-- An edge's features before the embedding. -/
def feats (x0 : FVec Ideal S8x512x3 .f32) (x4 : FVec Ideal S16x66 .f32) (x5 : FVec Ideal S16 .f32) (b : Fin 8) (i n : Fin 512) : Fin 163 → EReal :=
  cat (position (clip (BitVec.ofNat 32 i.val - BitVec.ofNat 32 n.val)) (fun c a => x4 (ix2 a c)) (fun a => x5 (ix1 a)))
    (radials (edgeDist x0 b i n)) (harmAt x0 b n)

/-- An edge's normalised embedding. -/
def target (x0 : FVec Ideal S8x512x3 .f32) (x4 : FVec Ideal S16x66 .f32) (x5 : FVec Ideal S16 .f32) (x6 : FVec Ideal S128x163 .f32)
    (x7 x8 : FVec Ideal S128 .f32) (b : Fin 8) (i n : Fin 512) (f : Fin 128) : EReal :=
  layerNorm (embed (feats x0 x4 x5 b i n) (fun c f => x6 (ix2 f c))) (fun f => x7 (ix1 f)) (fun f => x8 (ix1 f)) f

variable (b : Fin 8) (i : Fin 512) (k : Fin 30)
variable {x0 : FVec Ideal S8x512x3 .f32} {x1 : FVec Ideal S8x512 .f32} {x2 x3 : IVec S8x512 32} (h : SetUp x0 x1 x2 x3)
include h

/-- The indices with the residues and neighbours in one axis. -/
theorem v487_idx : val_main_v487 (F := Ideal) x0 x1 (ix2 b ⟨i.val * 30 + k.val, by omega⟩) = BitVec.ofNat 32 (near x0 b i k).val := by
  have g := indices_at h b i k
  unfold val_main_v487
  generalize val_main_indices (F := Ideal) x0 x1 = Y at g
  refine (shapeCast_apply Y _ _ (ix3 b i k) ?_).trans g
  rw [Shape.rowMajor_val_three, Shape.rowMajor_val_two]
  show (b.val * 512 + i.val) * 30 + k.val = b.val * 15360 + (i.val * 30 + k.val)
  omega

/-- The same with a trailing unit axis. -/
theorem v488_idx : val_main_v488 (F := Ideal) x0 x1 (ix3 b ⟨i.val * 30 + k.val, by omega⟩ 0) = BitVec.ofNat 32 (near x0 b i k).val := by
  have g := v487_idx b i k h
  unfold val_main_v488
  generalize val_main_v487 (F := Ideal) x0 x1 = Y at g
  pointwise []
  exact g

/-- The same with counting from the end resolved. -/
theorem rows_idx : val_main_call5_v4 (F := Ideal) x0 x1 (ix3 b ⟨i.val * 30 + k.val, by omega⟩ 0) = BitVec.ofNat 32 (near x0 b i k).val := by
  have g := v488_idx b i k h
  unfold val_main_call5_v4 val_main_call5_v1 val_main_call5_v0 val_main_call5_c val_main_call5_v3 val_main_call5_v2 val_main_call5_c_0
  generalize val_main_v488 (F := Ideal) x0 x1 = Y at g
  pointwise []
  rw [g]
  exact word_kept _

/-- The reference's harmonics of a residue. -/
theorem harm_at (n : Fin 512) (l : Fin 3) : val_main_v486 (F := Ideal) x0 (ix3 b n l) = harmAt x0 b n l := by
  have e : ∀ c : Fin 3, x0 (ix3 b n c) = (((x0 (ix3 b n c)).toReal : ℝ) : EReal) := fun c => by
    obtain ⟨r, hr⟩ := h.fin b n c
    rw [hr, EReal.toReal_coe]
  exact Sh.ref_at x0 b n l _ _ _ (e 0) (e 1) (e 2)

/-- The harmonics gathered at an edge's neighbour. -/
theorem gathered_at (a : Fin 3) : val_main_v490 (F := Ideal) x0 x1 (ix4 b i k a) = harmAt x0 b (near x0 b i k) a := by
  have g : val_main_v489 (F := Ideal) x0 x1 (ix3 b ⟨i.val * 30 + k.val, by omega⟩ a) = harmAt x0 b (near x0 b i k) a := by
    unfold val_main_v489
    exact (gatherRows_apply _ _ b ⟨i.val * 30 + k.val, by omega⟩ a (near x0 b i k) (rows_idx b i k h)).trans (harm_at b h _ a)
  unfold val_main_v490
  generalize val_main_v489 (F := Ideal) x0 x1 = Y at g
  pointwise []
  exact g

/-- The features of an edge before the embedding. -/
theorem feats_at (x4 : FVec Ideal S16x66 .f32) (x5 : FVec Ideal S16 .f32) (f : Fin 163) :
    val_main_v521 (F := Ideal) x0 x1 x2 x3 x4 x5 (ix4 b i k f) = feats x0 x4 x5 b i (near x0 b i k) f := by
  rw [v466_at, funext (v465_at b i k h x4 x5), funext (v73_at b i k h), funext (gathered_at b i k h)]
  rfl

/-- The reference's first result. -/
theorem enorm_at (x4 : FVec Ideal S16x66 .f32) (x5 : FVec Ideal S16 .f32) (x6 : FVec Ideal S128x163 .f32) (x7 x8 : FVec Ideal S128 .f32) (f : Fin 128) :
    val_main_v541 (F := Ideal) x0 x1 x2 x3 x4 x5 x6 x7 x8 (ix4 b i k f) = target x0 x4 x5 x6 x7 x8 b i (near x0 b i k) f := by
  rw [v486_at, funext (v468_at x0 x1 x2 x3 x4 x5 x6 b i k), funext (feats_at b i k h x4 x5)]
  rfl

end Cert.Proof.Ref
end
-- ==== Proof.KVal.lean ====
/- The kernel's two results as the formula of an edge. -/
module

public import proofs.«01_k».proof.Proof.Host
public import proofs.«01_k».proof.Proof.EdgeArray
public import proofs.«01_k».proof.Proof.ShKernel
public import proofs.«01_k».proof.Proof.RefVal

@[expose] public section

set_option maxRecDepth 16384

noncomputable section

namespace Cert.Proof.KVal

open Cert.KernelIdeal Cert.KernelIdeal.Gen
open Idealize.ShloMosaic Idealize.ShloMosaic.TcCoe Idealize.SL.Sem
open Cert.Proof.Spec Cert.Proof.Arrays Cert.Proof.Edge
open Cert.Proof.Ref (SetUp pt dists near before after starts stops edgeDist harmAt feats target)
open Cert.Proof.Rounds (row out0_2_apply out0_3_apply dist_apply)
open Cert.Proof.Select (nbr left left_nbr)

section Columns
variable (x s : FVec Ideal S8x512x3 .f32) (b : Fin 8) (i : Fin 512)

/-- The coordinates shifted forward are the residue before. -/
theorem fwd_at (e : Fin 3) : fwd x (ix3 b i e) = before x b i e := by
  pointwise [fwd, zrow]
  unfold before
  by_cases h : 1 ≤ i.val
  · rw [dif_neg (by omega), dif_pos h]
  · rw [dif_pos (by omega), dif_neg h]

/-- The coordinates shifted backward are the residue after. -/
theorem bwd_at (e : Fin 3) : bwd x (ix3 b i e) = after x b i e := by
  pointwise [bwd, zrow]
  unfold after
  by_cases h : i.val < 511
  · rw [dif_pos h, dif_pos h]
    exact congrArg (fun q => x (ix3 b q e)) (Fin.ext (Nat.add_comm _ _))
  · rw [dif_neg h, dif_neg h]

/-- The left operands' columns. -/
theorem gaOf_at (p : Fin 8) (e : Fin 3) : gaOf x (ix3 b i ⟨3 * p.val + e.val, by omega⟩) = starts x b i p e := by
  have e1 := fwd_at x b i
  have e2 := bwd_at x b i
  unfold gaOf
  generalize fwd x = Y at e1
  generalize bwd x = Z at e2
  pointwise []
  rcases p with ⟨p, hp⟩
  rcases e with ⟨e, he⟩
  interval_cases p <;> interval_cases e <;> first | exact e1 _ | exact e2 _ | rfl

/-- The right operands' columns. -/
theorem gbOf_at (p : Fin 8) (e : Fin 3) : gbOf x s (ix3 b i ⟨3 * p.val + e.val, by omega⟩) = stops x b i p e := by
  have e1 := fwd_at x b i
  have e2 := bwd_at x b i
  unfold gbOf
  generalize fwd x = Y at e1
  generalize bwd x = Z at e2
  pointwise []
  rcases p with ⟨p, hp⟩
  rcases e with ⟨e, he⟩
  interval_cases p <;> interval_cases e <;> first | exact e1 _ | exact e2 _ | rfl

/-- The harmonics' columns. -/
theorem gbOf_sh (e : Fin 3) : gbOf x s (ix3 b i ⟨24 + e.val, by omega⟩) = s (ix3 b i e) := by
  unfold gbOf
  generalize fwd x = Y
  generalize bwd x = Z
  pointwise []
  rcases e with ⟨e, he⟩
  interval_cases e <;> rfl

end Columns

/-- A real split in a leading part and a remainder adds up to itself. -/
theorem halves (a : EReal) (h : ∃ r : ℝ, a = (r : EReal)) : a + (a - a) = a := by
  obtain ⟨r, rfl⟩ := h
  rw [← EReal.coe_sub, sub_self, EReal.coe_zero, add_zero]

variable {x : FVec Ideal S8x512x3 .f32} {x1 : FVec Ideal S8x512 .f32} {x2 x3 : IVec S8x512 32} (h : SetUp x x1 x2 x3)

section Real
include h
variable (b : Fin 8) (i : Fin 512)

/-- The residue before has real coordinates. -/
theorem before_real (e : Fin 3) : ∃ r : ℝ, before x b i e = (r : EReal) := by
  unfold before
  split_ifs
  · exact h.fin _ _ _
  · exact ⟨0, rfl⟩

/-- The residue after has real coordinates. -/
theorem after_real (e : Fin 3) : ∃ r : ℝ, after x b i e = (r : EReal) := by
  unfold after
  split_ifs
  · exact h.fin _ _ _
  · exact ⟨0, rfl⟩

/-- A pair's right operand has real coordinates. -/
theorem stops_real (p : Fin 8) (e : Fin 3) : ∃ r : ℝ, stops x b i p e = (r : EReal) := by
  rcases p with ⟨p, hp⟩
  interval_cases p <;> first | exact before_real h b i e | exact after_real h b i e | exact h.fin b i e

end Real

/-- The distances of one residue in the first call. -/
theorem row_dist (b : Fin 8) (i : Fin 512) : row (Rounds.dist (caBlk x b) (catBlk x b)) i = dists x b i := by
  funext j
  exact dist_apply (caBlk x b) (catBlk x b) i j

variable (m : (ℓ : Loc nD τ sig) → Buf (Elt Ideal) ℓ) (ρ : Dev nD → PrngReg) (c : Dev nD)

/-- The other arguments as launched. -/
abbrev a4 : FVec Ideal S16x66 .f32 := m ((c.tc : Thread nD τ).loc main_arg4)
/-- The positional bias as launched. -/
abbrev a5 : FVec Ideal S16 .f32 := m ((c.tc : Thread nD τ).loc main_arg5)
/-- The embedding's weights as launched. -/
abbrev a6 : FVec Ideal S128x163 .f32 := m ((c.tc : Thread nD τ).loc main_arg6)
/-- The norm's scale as launched. -/
abbrev a7 : FVec Ideal S128 .f32 := m ((c.tc : Thread nD τ).loc main_arg7)
/-- The norm's shift as launched. -/
abbrev a8 : FVec Ideal S128 .f32 := m ((c.tc : Thread nD τ).loc main_arg8)

/-- After the first call, its harmonics array. -/
theorem W2_sh : W2 m ρ c (Proc.devRef .tc main_v1_2) = (dat0 (V1 m ρ) c).arrAt 4 cfg0.N := W2_arr m ρ c 4
/-- After the first call, its index array. -/
theorem W2_ei : W2 m ρ c (Proc.devRef .tc main_v1_1) = (dat0 (V1 m ρ) c).arrAt 3 cfg0.N := W2_arr m ρ c 3
/-- After the first call, its distance array. -/
theorem W2_dn : W2 m ρ c (Proc.devRef .tc main_v1_0) = (dat0 (V1 m ρ) c).arrAt 2 cfg0.N := W2_arr m ρ c 2

variable (b : Fin 8) (i : Fin 512) (k : Fin 30)

/-- The neighbours the second call reads. -/
theorem ei_at : eiA (V3 m ρ) c (ix3 b i k) = BitVec.ofNat 32 (near (ca m c) b i k) := by
  have e : V3 m ρ c main_v1_1 = (dat0 (V1 m ρ) c).arrAt 3 cfg0.N := (W3_of m ρ c main_v1_1 (by decide)).trans (W2_ei m ρ c)
  have e' := congrFun (e.trans (final3 m ρ c)) (ix3 b i k)
  refine e'.trans ((out0_3_apply (caBlk (ca m c) b) (catBlk (ca m c) b) i k).trans ?_)
  rw [row_dist]
  rfl

variable {y1 : FVec Ideal S8x512 .f32} {y2 y3 : IVec S8x512 32} (hs : SetUp (ca m c) y1 y2 y3)
include hs

/-- The neighbours' distances. -/
theorem dn_at : dnA (V3 m ρ) c (ix3 b i k) = dists (ca m c) b i (near (ca m c) b i k) := by
  have e : V3 m ρ c main_v1_0 = (dat0 (V1 m ρ) c).arrAt 2 cfg0.N := (W3_of m ρ c main_v1_0 (by decide)).trans (W2_dn m ρ c)
  have e' := congrFun (e.trans (final2 m ρ c)) (ix3 b i k)
  refine e'.trans ((out0_2_apply (caBlk (ca m c) b) (catBlk (ca m c) b) i k).trans ?_)
  rw [row_dist]
  exact left_nbr _ (Ref.dists_lt hs b i) k (by omega)

/-- The harmonics. -/
theorem sh_at (l : Fin 3) : W2 m ρ c (Proc.devRef .tc main_v1_2) (ix3 b i l) = harmAt (ca m c) b i l := by
  have e' := congrFun ((W2_sh m ρ c).trans (final4 m ρ c)) (ix3 b i l)
  have r : ∀ a : Fin 3, caBlk (ca m c) b (ix3 0 i a) = (((ca m c (ix3 b i a)).toReal : ℝ) : EReal) := fun a => by
    obtain ⟨r, hr⟩ := hs.fin b i a
    show ca m c (ix3 b i a) = _
    rw [hr, EReal.toReal_coe]
  exact e'.trans (Sh.out0_4_apply (caBlk (ca m c) b) (catBlk (ca m c) b) i l _ _ _ (r 0) (r 1) (r 2))

omit hs in
/-- The second call's left operands, from the coordinates. -/
theorem ga_arr : gaA (V3 m ρ) c = gaOf (ca m c) :=
  (read_ga (W2 m ρ c)).trans (congrArg gaOf (W2_args m ρ c main_arg0 (by decide)))

/-- The rows the second call gathers from. -/
def gb : FVec Ideal S8x512x32 .f32 := gbOf (ca m c) (W2 m ρ c (Proc.devRef .tc main_v1_2))

omit hs in
/-- The leading part the second call reads. -/
theorem hi_arr : hiA (V3 m ρ) c = gb m ρ c := by
  refine (read_hi (W2 m ρ c)).trans ?_
  unfold gb
  rw [W2_args m ρ c main_arg0 (by decide)]

omit hs in
/-- The remainder the second call reads. -/
theorem lo_arr : loA (V3 m ρ) c = subf (gb m ρ c) (gb m ρ c) := by
  refine (read_lo (W2 m ρ c)).trans ?_
  unfold gb
  rw [W2_args m ρ c main_arg0 (by decide)]

omit hs in
/-- The two parts gathered and added are the row gathered, where it is real. -/
theorem gath_at (a : Fin 32) (n : Fin 8 → Fin 512 → Fin 30 → Fin 512) (hr : ∃ r : ℝ, gb m ρ c (ix3 b (n b i k) a) = (r : EReal)) :
    gath (V3 m ρ) c n b i k a = gb m ρ c (ix3 b (n b i k) a) := by
  unfold gath
  rw [hi_arr, lo_arr]
  exact halves _ hr

/-- A gathered pair column is the neighbour's right operand. -/
theorem gath_pair (n : Fin 8 → Fin 512 → Fin 30 → Fin 512) (a : Fin 32) (p : Fin 8) (e : Fin 3) (ha : a.val = 3 * p.val + e.val) :
    gath (V3 m ρ) c n b i k a = stops (ca m c) b (n b i k) p e := by
  have g : gb m ρ c (ix3 b (n b i k) a) = stops (ca m c) b (n b i k) p e := by
    have : a = ⟨3 * p.val + e.val, by omega⟩ := Fin.ext ha
    rw [this]
    exact gbOf_at _ _ b _ p e
  refine (gath_at m ρ c b i k a n ?_).trans g
  obtain ⟨r, hr⟩ := stops_real hs b (n b i k) p e
  exact ⟨r, g.trans hr⟩

/-- A gathered harmonics column is the neighbour's harmonic. -/
theorem gath_sh (n : Fin 8 → Fin 512 → Fin 30 → Fin 512) (l : Fin 3) :
    gath (V3 m ρ) c n b i k ⟨24 + l.val, by omega⟩ = harmAt (ca m c) b (n b i k) l := by
  have g : gb m ρ c (ix3 b (n b i k) ⟨24 + l.val, by omega⟩) = harmAt (ca m c) b (n b i k) l :=
    (gbOf_sh _ _ b _ l).trans (sh_at m ρ c b _ hs l)
  refine (gath_at m ρ c b i k _ n ?_).trans g
  exact ⟨_, g⟩

omit hs in
/-- A left operand's column is the residue's own. -/
theorem ga_pair (a : Fin 24) (p : Fin 8) (e : Fin 3) (ha : a.val = 3 * p.val + e.val) :
    gaA (V3 m ρ) c (ix3 b i a) = starts (ca m c) b i p e := by
  have : a = ⟨3 * p.val + e.val, by omega⟩ := Fin.ext ha
  rw [ga_arr, this]
  exact gaOf_at _ b i p e

/-- The nine distances. -/
theorem nine_at : nine (dnA (V3 m ρ) c (ix3 b i k)) (fun a => (gaA (V3 m ρ) c (ix3 b i a) - gath (V3 m ρ) c (near (ca m c)) b i k ⟨a, by omega⟩)
      * (gaA (V3 m ρ) c (ix3 b i a) - gath (V3 m ρ) c (near (ca m c)) b i k ⟨a, by omega⟩))
    = edgeDist (ca m c) b i (near (ca m c) b i k) := by
  funext p
  unfold nine edgeDist
  split_ifs with hp
  · exact dn_at m ρ c b i k hs
  · have q : ∀ (a : Fin 24) (e : Fin 3), a.val = 3 * (p.val - 1) + e.val →
        gaA (V3 m ρ) c (ix3 b i a) - gath (V3 m ρ) c (near (ca m c)) b i k ⟨a, by omega⟩
          = starts (ca m c) b i ⟨p.val - 1, by omega⟩ e - stops (ca m c) b (near (ca m c) b i k) ⟨p.val - 1, by omega⟩ e := fun a e ha => by
      rw [ga_pair m ρ c b i a ⟨p.val - 1, by omega⟩ e ha, gath_pair m ρ c b i k hs (near (ca m c)) ⟨a, by omega⟩ ⟨p.val - 1, by omega⟩ e ha]
    unfold pairDist
    simp only [q ⟨3 * (p.val - 1), by omega⟩ 0 rfl, q ⟨3 * (p.val - 1) + 1, by omega⟩ 1 rfl, q ⟨3 * (p.val - 1) + 2, by omega⟩ 2 rfl]

omit hs in
/-- The positional weights, entry by entry. -/
theorem wp_at (a : Fin 66) (f : Fin 16) : wpA (V3 m ρ) c (ix2 a f) = a4 m c (ix2 f a) := by
  have e : wpA (V3 m ρ) c = transpose S66x16 [1, 0] (a4 m c) transposes_S16x66_S66x16_1_0 :=
    (read_wp (W2 m ρ c)).trans (congrArg (fun z => transpose S66x16 [1, 0] z transposes_S16x66_S66x16_1_0) (W2_args m ρ c main_arg4 (by decide)))
  rw [e]
  pointwise []

omit hs in
/-- The embedding's weights, entry by entry. -/
theorem we_at (a : Fin 163) (f : Fin 128) : weA (V3 m ρ) c (ix2 a f) = a6 m c (ix2 f a) := by
  have e : weA (V3 m ρ) c = transpose S163x128 [1, 0] (a6 m c) transposes_S128x163_S163x128_1_0 :=
    (read_we (W2 m ρ c)).trans (congrArg (fun z => transpose S163x128 [1, 0] z transposes_S128x163_S163x128_1_0) (W2_args m ρ c main_arg6 (by decide)))
  rw [e]
  pointwise []

omit hs in
/-- The positional bias, entry by entry. -/
theorem bp_at (f : Fin 16) : bpA (V3 m ρ) c (ix2 0 f) = a5 m c (ix1 f) := by
  have e : bpA (V3 m ρ) c = broadcastInDim S1x16 ![1] bcast_S16_S1x16_1 (a5 m c) :=
    (read_bp (W2 m ρ c)).trans (congrArg (fun z => broadcastInDim S1x16 ![1] bcast_S16_S1x16_1 z) (W2_args m ρ c main_arg5 (by decide)))
  rw [e]
  pointwise []

omit hs in
/-- The norm's scale, entry by entry. -/
theorem lg_at (f : Fin 128) : lgA (V3 m ρ) c (ix2 0 f) = a7 m c (ix1 f) := by
  have e : lgA (V3 m ρ) c = broadcastInDim S1x128 ![1] bcast_S128_S1x128_1 (a7 m c) :=
    (read_lg (W2 m ρ c)).trans (congrArg (fun z => broadcastInDim S1x128 ![1] bcast_S128_S1x128_1 z) (W2_args m ρ c main_arg7 (by decide)))
  rw [e]
  pointwise []

omit hs in
/-- The norm's shift, entry by entry. -/
theorem lb_at (f : Fin 128) : lbA (V3 m ρ) c (ix2 0 f) = a8 m c (ix1 f) := by
  have e : lbA (V3 m ρ) c = broadcastInDim S1x128 ![1] bcast_S128_S1x128_1 (a8 m c) :=
    (read_lb (W2 m ρ c)).trans (congrArg (fun z => broadcastInDim S1x128 ![1] bcast_S128_S1x128_1 z) (W2_args m ρ c main_arg8 (by decide)))
  rw [e]
  pointwise []

/-- The second call's features of an edge are the formula. -/
theorem edge_at (f : Fin 128) : edge (V3 m ρ) c (near (ca m c)) b i k f
    = target (ca m c) (a4 m c) (a5 m c) (a6 m c) (a7 m c) (a8 m c) b i (near (ca m c) b i k) f := by
  unfold edge target feats
  rw [nine_at m ρ c b i k hs, funext (gath_sh m ρ c b i k hs (near (ca m c))), funext (bp_at m ρ c), funext (lg_at m ρ c), funext (lb_at m ρ c),
    funext (fun a => funext (wp_at m ρ c a)), funext (fun a => funext (we_at m ρ c a))]

omit hs in
/-- The kernel's first result is the second call's output, reshaped. -/
theorem W5_out : W5 m ρ c (Proc.devRef .tc main_v20)
    = shapeCast S8x512x30x128 (W4 m ρ c (Proc.devRef .tc main_v19)) shapeCasts_S8x15360x128_S8x512x30x128 := by
  show StableHlo.after hostOps2 (W4 m ρ c) (Proc.devRef .tc main_v20) = _
  after_reads_simp
  rfl

/-- The kernel's first result. -/
theorem enorm_at (f : Fin 128) : W5 m ρ c (Proc.devRef .tc main_v20) (ix4 b i k f)
    = target (ca m c) (a4 m c) (a5 m c) (a6 m c) (a7 m c) (a8 m c) b i (near (ca m c) b i k) f := by
  have e : W4 m ρ c (Proc.devRef .tc main_v19) = (dat1 (V3 m ρ) c).arrAt 10 cfg1.N := W4_arr m ρ c 10
  have g := congrFun (e.trans (final10 (V3 m ρ) c (near (ca m c)) (ei_at m ρ c))) (ix3 b ⟨i.val * 30 + k.val, by omega⟩ f)
  rw [W5_out]
  generalize W4 m ρ c (Proc.devRef .tc main_v19) = Y at g
  pointwise []
  refine g.trans ?_
  refine (edge_congr (V3 m ρ) c (near (ca m c)) rfl ?_ ?_ rfl).trans (edge_at m ρ c b i k hs f)
  · show (i.val * 30 + k.val) / 30 = i.val
    omega
  · show (i.val * 30 + k.val) % 30 = k.val
    omega

omit hs in
/-- The kernel's second result. -/
theorem idx_at : W5 m ρ c (Proc.devRef .tc main_v1_1) (ix3 b i k) = BitVec.ofNat 32 (near (ca m c) b i k) := by
  have e : W5 m ρ c (Proc.devRef .tc main_v1_1) = V3 m ρ c main_v1_1 :=
    (W5_of m ρ c main_v1_1 (by decide)).trans (W4_of m ρ c main_v1_1 (by decide))
  rw [e]
  exact ei_at m ρ c b i k

end Cert.Proof.KVal
end
-- ==== Proof.Pre.lean ====
/- What the precondition says of the arguments. -/
module

public import proofs.«01_k».proof.Defs
public import proofs.«01_k».proof.Proof.RefTop
public import proofs.«01_k».proof.Proof.Gen.Pre_as_set_up

@[expose] public section

set_option maxRecDepth 16384

noncomputable section

namespace Cert.Proof.Pre

open Idealize.ShloMosaic Idealize.ShloMosaic.TcCoe
open Cert.Pre_as_set_up Cert.Pre_as_set_up.Gen

variable (x0 : FVec Ideal S8x512x3 .f32) (x1 : FVec Ideal S8x512 .f32) (x2 x3 : IVec S8x512 32)
  (x4 : FVec Ideal S16x66 .f32) (x5 : FVec Ideal S16 .f32) (x6 : FVec Ideal S128x163 .f32) (x7 x8 : FVec Ideal S128 .f32)

/-- A decided proposition whose bit is one holds. -/
theorem of_bit (p : Prop) [Decidable p] (h : BitVec.ofBool (decide p) = 1#1) : p := by
  by_contra hn
  rw [decide_eq_false hn] at h
  exact absurd h (by decide)

/-- Words that compare equal are equal. -/
theorem words_eq (u w : BitVec 32) (h : IntOp.cmpi .eq u w = 1#1) : u = w := by
  have h' : BitVec.ofBool (u == w) = 1#1 := h
  by_contra hn
  have : (u == w) = false := by simpa using hn
  rw [this] at h'
  exact absurd h' (by decide)

/-- The precondition's first part at an entry. -/
theorem first_at (b : Fin 8) (i : Fin 512) (c : Fin 3) : (fn x0 x1 x2 x3 x4 x5 x6 x7 x8).1 (ix3 b i c)
    = BitVec.ofBool (decide (max (x0 (ix3 b i c)) (-(x0 (ix3 b i c))) < Ideal.ofBits .f32 2139095040#32)) := rfl

/-- The precondition's second part at an entry. -/
theorem second_at (b : Fin 8) (i : Fin 512) : (fn x0 x1 x2 x3 x4 x5 x6 x7 x8).2.1 (ix2 b i)
    = BitVec.ofBool (decide (x1 (ix2 b i) = Ideal.ofBits .f32 1065353216#32)) := rfl

/-- The precondition's third part at an entry. -/
theorem third_at (b : Fin 8) (i : Fin 512) : (fn x0 x1 x2 x3 x4 x5 x6 x7 x8).2.2.1 (ix2 b i)
    = IntOp.cmpi .eq (x2 (ix2 b i) - x2 (ix2 b 0)) (BitVec.ofNat 32 i.val) := by
  unfold fn
  pointwise []
  rfl

/-- The precondition's fourth part at an entry. -/
theorem fourth_at (b : Fin 8) (i : Fin 512) : (fn x0 x1 x2 x3 x4 x5 x6 x7 x8).2.2.2 (ix2 b i)
    = IntOp.cmpi .eq (x3 (ix2 b i)) (x3 (ix2 b 0)) := by
  unfold fn
  pointwise []

/-- The precondition gives finite coordinates, an all-one mask, consecutive numbers and one chain per row. -/
theorem setUp (h : (fn x0 x1 x2 x3 x4 x5 x6 x7 x8).1 = (fun _ => 1#1) ∧ (fn x0 x1 x2 x3 x4 x5 x6 x7 x8).2.1 = (fun _ => 1#1)
    ∧ (fn x0 x1 x2 x3 x4 x5 x6 x7 x8).2.2.1 = (fun _ => 1#1) ∧ (fn x0 x1 x2 x3 x4 x5 x6 x7 x8).2.2.2 = (fun _ => 1#1)) :
    Ref.SetUp x0 x1 x2 x3 where
  fin b i c := by
    have e := of_bit _ ((first_at x0 x1 x2 x3 x4 x5 x6 x7 x8 b i c).symm.trans (congrFun h.1 _))
    have t : Ideal.ofBits .f32 2139095040#32 = ⊤ := by simp [Ideal.ofBits, Ideal.ieee]
    rw [t] at e
    have e1 : x0 (ix3 b i c) ≠ ⊤ := fun hh => by
      rw [hh] at e
      simp at e
    have e2 : x0 (ix3 b i c) ≠ ⊥ := fun hh => by
      rw [hh] at e
      simp at e
    exact ⟨_, (EReal.coe_toReal e1 e2).symm⟩
  one b i := by
    have e := of_bit _ ((second_at x0 x1 x2 x3 x4 x5 x6 x7 x8 b i).symm.trans (congrFun h.2.1 _))
    rw [e]
    simp [Ideal.ofBits, Ideal.ieee, -EReal.coe_mul]
    norm_num
  res b i := by
    have e := words_eq _ _ ((third_at x0 x1 x2 x3 x4 x5 x6 x7 x8 b i).symm.trans (congrFun h.2.2.1 _))
    rw [← e, BitVec.add_comm, BitVec.sub_add_cancel]
  chain b i := words_eq _ _ ((fourth_at x0 x1 x2 x3 x4 x5 x6 x7 x8 b i).symm.trans (congrFun h.2.2.2 _))

end Cert.Proof.Pre
end
-- ==== Proof.Algebraic.lean ====
/- From arguments as they are set up, the kernel and the reference end with the same two results. -/
module

public import proofs.«01_k».proof.Defs
public import proofs.«01_k».proof.Proof.KernelRun
public import proofs.«01_k».proof.Proof.KVal
public import proofs.«01_k».proof.Proof.Pre
public import proofs.«01_k».proof.Proof.Gen.ReferenceIdeal.Run
public import proofs.«01_k».proof.Proof.Gen.Pre_as_set_up

@[expose] public section

set_option maxRecDepth 16384

noncomputable section

namespace Cert.Proof.Algebraic

open Idealize.ShloMosaic Idealize.ShloMosaic.TcCoe Idealize.SL.Sem
open Idealize.ShloMosaic.StableHlo (launchContents launchContents_devRef)
open Cert.KernelIdeal.Gen (W5)
open Cert.Proof.Arrays (ca)
open Cert.Proof.KVal (a4 a5 a6 a7 a8)

variable (m : (ℓ : Loc Cert.KernelIdeal.nD Cert.KernelIdeal.τ Cert.KernelIdeal.sig) → Buf (Elt Ideal) ℓ)
  (g : Dev Cert.KernelIdeal.nD → PrngReg) (c : Dev Cert.KernelIdeal.nD)

/-- The other launched arrays the precondition speaks of. -/
abbrev a1 : FVec Ideal Cert.KernelIdeal.S8x512 .f32 := m ((c.tc : Thread Cert.KernelIdeal.nD Cert.KernelIdeal.τ).loc Cert.KernelIdeal.main_arg1)
/-- The residue numbers as launched. -/
abbrev a2 : IVec Cert.KernelIdeal.S8x512 32 := m ((c.tc : Thread Cert.KernelIdeal.nD Cert.KernelIdeal.τ).loc Cert.KernelIdeal.main_arg2)
/-- The chain labels as launched. -/
abbrev a3 : IVec Cert.KernelIdeal.S8x512 32 := m ((c.tc : Thread Cert.KernelIdeal.nD Cert.KernelIdeal.τ).loc Cert.KernelIdeal.main_arg3)

/-- The reference's first result on the kernel's arguments is the kernel's. -/
theorem first_eq (h : Ref.SetUp (ca m c) (a1 m c) (a2 m c) (a3 m c)) :
    Cert.ReferenceIdeal.Read.val_main_v541 (F := Ideal) (ca m c) (a1 m c) (a2 m c) (a3 m c) (a4 m c) (a5 m c) (a6 m c) (a7 m c) (a8 m c)
      = W5 m g c (Proc.devRef .tc Cert.KernelIdeal.main_v20) := by
  refine funext fun j => ?_
  have e : j = ix4 (j 0) (j 1) (j 2) (j 3) := eq_ix4 j
  rw [e]
  exact (Ref.enorm_at (j 0) (j 1) (j 2) h (a4 m c) (a5 m c) (a6 m c) (a7 m c) (a8 m c) (j 3)).trans
    (KVal.enorm_at m g c (j 0) (j 1) (j 2) h (j 3)).symm

/-- The reference's second result on the kernel's arguments is the kernel's. -/
theorem second_eq (h : Ref.SetUp (ca m c) (a1 m c) (a2 m c) (a3 m c)) :
    Cert.ReferenceIdeal.Read.val_main_indices (F := Ideal) (ca m c) (a1 m c) = W5 m g c (Proc.devRef .tc Cert.KernelIdeal.main_v1_1) := by
  refine funext fun j => ?_
  have e : j = ix3 (j 0) (j 1) (j 2) := eq_ix3 j
  rw [e]
  exact (Ref.indices_at h (j 0) (j 1) (j 2)).trans (KVal.idx_at m g c (j 0) (j 1) (j 2)).symm

/-- Both programs run and end with the same two results and their arguments unchanged. -/
theorem algebraic : Cert.algebraic_KernelIdeal_ReferenceIdeal_pre_as_set_up := fun m g m' g' hpre hargs =>
  ⟨fun c => W5 m g c (Proc.devRef .tc Cert.KernelIdeal.main_v20), fun c => W5 m g c (Proc.devRef .tc Cert.KernelIdeal.main_v1_1),
    KRun.results m g,
    (θ_run Cert.ReferenceIdeal.defs _ _).mono (fun r hr c => by
      obtain ⟨h0, h1, h2, h3, h4, h5, h6, h7, h8⟩ := hargs c
      have hs := Pre.setUp _ _ _ _ _ _ _ _ _ (hpre c)
      refine ⟨(hr c).1.trans ?_, (hr c).2.1.trans ?_, (hr c).2.2⟩
      · refine (Cert.ReferenceIdeal.Read.val_main_v541_eq (F := Ideal) (launchContents m' c)).trans ?_
        rw [launchContents_devRef, launchContents_devRef, launchContents_devRef, launchContents_devRef, launchContents_devRef, launchContents_devRef,
          launchContents_devRef, launchContents_devRef, launchContents_devRef, h0, h1, h2, h3, h4, h5, h6, h7, h8]
        exact first_eq m g c hs
      · refine (Cert.ReferenceIdeal.Read.val_main_indices_eq (F := Ideal) (launchContents m' c)).trans ?_
        rw [launchContents_devRef, launchContents_devRef, h0, h1]
        exact second_eq m g c hs)
      (Cert.ReferenceIdeal.Value.run (F := Ideal) m' g')⟩

end Cert.Proof.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_as_set_up
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything this certificate claims. -/
theorem claim : Cert.Claim := ⟨Cert.Kernel.Gen.facts, Cert.KernelIdeal.Gen.facts, Cert.ReferenceIdeal.Gen.facts, Cert.Pre_as_set_up.Gen.facts,
  Frames.kernel, Frames.kernelIdeal, Frames.kernelIdealSetUp, Frames.referenceIdeal, Frames.referenceIdealSetUp, Frames.preserves, Algebraic.algebraic⟩

end Cert.Proof

end
